-- ==== Defs.lean ====
def Pre_Ff (m : (ℓ : Loc Cert.Ff.nD Cert.Ff.τ Cert.Ff.sig) → Buf (Elt Bits) ℓ) : Prop :=
  True

def Pre_FfIdeal (m : (ℓ : Loc Cert.FfIdeal.nD Cert.FfIdeal.τ Cert.FfIdeal.sig) → Buf (Elt Ideal) ℓ) : Prop :=
  True

def Pre_FfRefIdeal (m : (ℓ : Loc Cert.FfRefIdeal.nD Cert.FfRefIdeal.τ Cert.FfRefIdeal.sig) → Buf (Elt Ideal) ℓ) : Prop :=
  True

def Pre_Op (m : (ℓ : Loc Cert.Op.nD Cert.Op.τ Cert.Op.sig) → Buf (Elt Bits) ℓ) : Prop :=
  True

def Pre_OpIdeal (m : (ℓ : Loc Cert.OpIdeal.nD Cert.OpIdeal.τ Cert.OpIdeal.sig) → Buf (Elt Ideal) ℓ) : Prop :=
  True

def Pre_OpRefIdeal (m : (ℓ : Loc Cert.OpRefIdeal.nD Cert.OpRefIdeal.τ Cert.OpRefIdeal.sig) → Buf (Elt Ideal) ℓ) : Prop :=
  True

def quiescent_Ff [hFf : Cert.Ff.Facts] : Prop :=
  ∀ (m : (ℓ : Loc Cert.Ff.nD Cert.Ff.τ Cert.Ff.sig) → Buf (Elt Bits) ℓ) (g : Dev Cert.Ff.nD → PrngReg), Pre_Ff m →
    θ_run (Cert.Ff.defs (F := Bits)) (onTc (τ := Cert.Ff.τ) (Cert.Ff.main (F := Bits))) ⟨m, fun _ => 0, g⟩ (fun r => (∀ c : Dev Cert.Ff.nD,
      r.2.mem ((c.tc : Thread Cert.Ff.nD Cert.Ff.τ).loc Cert.Ff.main_arg0) = m ((c.tc : Thread Cert.Ff.nD Cert.Ff.τ).loc Cert.Ff.main_arg0)
      ∧ r.2.mem ((c.tc : Thread Cert.Ff.nD Cert.Ff.τ).loc Cert.Ff.main_arg1) = m ((c.tc : Thread Cert.Ff.nD Cert.Ff.τ).loc Cert.Ff.main_arg1)
      ∧ r.2.mem ((c.tc : Thread Cert.Ff.nD Cert.Ff.τ).loc Cert.Ff.main_arg2) = m ((c.tc : Thread Cert.Ff.nD Cert.Ff.τ).loc Cert.Ff.main_arg2)
      ∧ r.2.mem ((c.tc : Thread Cert.Ff.nD Cert.Ff.τ).loc Cert.Ff.main_arg3) = m ((c.tc : Thread Cert.Ff.nD Cert.Ff.τ).loc Cert.Ff.main_arg3)
      ∧ r.2.mem ((c.tc : Thread Cert.Ff.nD Cert.Ff.τ).loc Cert.Ff.main_arg4) = m ((c.tc : Thread Cert.Ff.nD Cert.Ff.τ).loc Cert.Ff.main_arg4)
      ∧ r.2.mem ((c.tc : Thread Cert.Ff.nD Cert.Ff.τ).loc Cert.Ff.main_arg5) = m ((c.tc : Thread Cert.Ff.nD Cert.Ff.τ).loc Cert.Ff.main_arg5))
      ∧ r.2.sem = fun _ => 0)

def quiescent_FfIdeal [hFfIdeal : Cert.FfIdeal.Facts] : Prop :=
  ∀ (m : (ℓ : Loc Cert.FfIdeal.nD Cert.FfIdeal.τ Cert.FfIdeal.sig) → Buf (Elt Ideal) ℓ) (g : Dev Cert.FfIdeal.nD → PrngReg), Pre_FfIdeal m →
    θ_run (Cert.FfIdeal.defs (F := Ideal)) (onTc (τ := Cert.FfIdeal.τ) (Cert.FfIdeal.main (F := Ideal))) ⟨m, fun _ => 0, g⟩ (fun r => (∀ c : Dev Cert.FfIdeal.nD,
      r.2.mem ((c.tc : Thread Cert.FfIdeal.nD Cert.FfIdeal.τ).loc Cert.FfIdeal.main_arg0) = m ((c.tc : Thread Cert.FfIdeal.nD Cert.FfIdeal.τ).loc Cert.FfIdeal.main_arg0)
      ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
      ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
      ∧ r.2.mem ((c.tc : Thread Cert.FfIdeal.nD Cert.FfIdeal.τ).loc Cert.FfIdeal.main_arg3) = m ((c.tc : Thread Cert.FfIdeal.nD Cert.FfIdeal.τ).loc Cert.FfIdeal.main_arg3)
      ∧ r.2.mem ((c.tc : Thread Cert.FfIdeal.nD Cert.FfIdeal.τ).loc Cert.FfIdeal.main_arg4) = m ((c.tc : Thread Cert.FfIdeal.nD Cert.FfIdeal.τ).loc Cert.FfIdeal.main_arg4)
      ∧ r.2.mem ((c.tc : Thread Cert.FfIdeal.nD Cert.FfIdeal.τ).loc Cert.FfIdeal.main_arg5) = m ((c.tc : Thread Cert.FfIdeal.nD Cert.FfIdeal.τ).loc Cert.FfIdeal.main_arg5))
      ∧ r.2.sem = fun _ => 0)

def quiescent_FfRefIdeal [hFfRefIdeal : Cert.FfRefIdeal.Facts] : Prop :=
  ∀ (m : (ℓ : Loc Cert.FfRefIdeal.nD Cert.FfRefIdeal.τ Cert.FfRefIdeal.sig) → Buf (Elt Ideal) ℓ) (g : Dev Cert.FfRefIdeal.nD → PrngReg), Pre_FfRefIdeal m →
    θ_run (Cert.FfRefIdeal.defs (F := Ideal)) (onTc (τ := Cert.FfRefIdeal.τ) (Cert.FfRefIdeal.main (F := Ideal))) ⟨m, fun _ => 0, g⟩ (fun r => (∀ c : Dev Cert.FfRefIdeal.nD,
      r.2.mem ((c.tc : Thread Cert.FfRefIdeal.nD Cert.FfRefIdeal.τ).loc Cert.FfRefIdeal.main_arg0) = m ((c.tc : Thread Cert.FfRefIdeal.nD Cert.FfRefIdeal.τ).loc Cert.FfRefIdeal.main_arg0)
      ∧ r.2.mem ((c.tc : Thread Cert.FfRefIdeal.nD Cert.FfRefIdeal.τ).loc Cert.FfRefIdeal.main_arg1) = m ((c.tc : Thread Cert.FfRefIdeal.nD Cert.FfRefIdeal.τ).loc Cert.FfRefIdeal.main_arg1)
      ∧ r.2.mem ((c.tc : Thread Cert.FfRefIdeal.nD Cert.FfRefIdeal.τ).loc Cert.FfRefIdeal.main_arg2) = m ((c.tc : Thread Cert.FfRefIdeal.nD Cert.FfRefIdeal.τ).loc Cert.FfRefIdeal.main_arg2)
      ∧ r.2.mem ((c.tc : Thread Cert.FfRefIdeal.nD Cert.FfRefIdeal.τ).loc Cert.FfRefIdeal.main_arg3) = m ((c.tc : Thread Cert.FfRefIdeal.nD Cert.FfRefIdeal.τ).loc Cert.FfRefIdeal.main_arg3)
      ∧ r.2.mem ((c.tc : Thread Cert.FfRefIdeal.nD Cert.FfRefIdeal.τ).loc Cert.FfRefIdeal.main_arg4) = m ((c.tc : Thread Cert.FfRefIdeal.nD Cert.FfRefIdeal.τ).loc Cert.FfRefIdeal.main_arg4)
      ∧ r.2.mem ((c.tc : Thread Cert.FfRefIdeal.nD Cert.FfRefIdeal.τ).loc Cert.FfRefIdeal.main_arg5) = m ((c.tc : Thread Cert.FfRefIdeal.nD Cert.FfRefIdeal.τ).loc Cert.FfRefIdeal.main_arg5))
      ∧ r.2.sem = fun _ => 0)

def quiescent_Op [hOp : Cert.Op.Facts] : Prop :=
  ∀ (m : (ℓ : Loc Cert.Op.nD Cert.Op.τ Cert.Op.sig) → Buf (Elt Bits) ℓ) (g : Dev Cert.Op.nD → PrngReg), Pre_Op m →
    θ_run (Cert.Op.defs (F := Bits)) (onTc (τ := Cert.Op.τ) (Cert.Op.main (F := Bits))) ⟨m, fun _ => 0, g⟩ (fun r => (∀ c : Dev Cert.Op.nD,
      r.2.mem ((c.tc : Thread Cert.Op.nD Cert.Op.τ).loc Cert.Op.main_arg0) = m ((c.tc : Thread Cert.Op.nD Cert.Op.τ).loc Cert.Op.main_arg0)
      ∧ r.2.mem ((c.tc : Thread Cert.Op.nD Cert.Op.τ).loc Cert.Op.main_arg1) = m ((c.tc : Thread Cert.Op.nD Cert.Op.τ).loc Cert.Op.main_arg1)
      ∧ r.2.mem ((c.tc : Thread Cert.Op.nD Cert.Op.τ).loc Cert.Op.main_arg2) = m ((c.tc : Thread Cert.Op.nD Cert.Op.τ).loc Cert.Op.main_arg2)
      ∧ r.2.mem ((c.tc : Thread Cert.Op.nD Cert.Op.τ).loc Cert.Op.main_arg3) = m ((c.tc : Thread Cert.Op.nD Cert.Op.τ).loc Cert.Op.main_arg3)
      ∧ r.2.mem ((c.tc : Thread Cert.Op.nD Cert.Op.τ).loc Cert.Op.main_arg4) = m ((c.tc : Thread Cert.Op.nD Cert.Op.τ).loc Cert.Op.main_arg4))
      ∧ r.2.sem = fun _ => 0)

def quiescent_OpIdeal [hOpIdeal : Cert.OpIdeal.Facts] : Prop :=
  ∀ (m : (ℓ : Loc Cert.OpIdeal.nD Cert.OpIdeal.τ Cert.OpIdeal.sig) → Buf (Elt Ideal) ℓ) (g : Dev Cert.OpIdeal.nD → PrngReg), Pre_OpIdeal m →
    θ_run (Cert.OpIdeal.defs (F := Ideal)) (onTc (τ := Cert.OpIdeal.τ) (Cert.OpIdeal.main (F := Ideal))) ⟨m, fun _ => 0, g⟩ (fun r => (∀ c : Dev Cert.OpIdeal.nD,
      r.2.mem ((c.tc : Thread Cert.OpIdeal.nD Cert.OpIdeal.τ).loc Cert.OpIdeal.main_arg0) = m ((c.tc : Thread Cert.OpIdeal.nD Cert.OpIdeal.τ).loc Cert.OpIdeal.main_arg0)
      ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
      ∧ r.2.mem ((c.tc : Thread Cert.OpIdeal.nD Cert.OpIdeal.τ).loc Cert.OpIdeal.main_arg2) = m ((c.tc : Thread Cert.OpIdeal.nD Cert.OpIdeal.τ).loc Cert.OpIdeal.main_arg2)
      ∧ r.2.mem ((c.tc : Thread Cert.OpIdeal.nD Cert.OpIdeal.τ).loc Cert.OpIdeal.main_arg3) = m ((c.tc : Thread Cert.OpIdeal.nD Cert.OpIdeal.τ).loc Cert.OpIdeal.main_arg3)
      ∧ r.2.mem ((c.tc : Thread Cert.OpIdeal.nD Cert.OpIdeal.τ).loc Cert.OpIdeal.main_arg4) = m ((c.tc : Thread Cert.OpIdeal.nD Cert.OpIdeal.τ).loc Cert.OpIdeal.main_arg4))
      ∧ r.2.sem = fun _ => 0)

def quiescent_OpRefIdeal [hOpRefIdeal : Cert.OpRefIdeal.Facts] : Prop :=
  ∀ (m : (ℓ : Loc Cert.OpRefIdeal.nD Cert.OpRefIdeal.τ Cert.OpRefIdeal.sig) → Buf (Elt Ideal) ℓ) (g : Dev Cert.OpRefIdeal.nD → PrngReg), Pre_OpRefIdeal m →
    θ_run (Cert.OpRefIdeal.defs (F := Ideal)) (onTc (τ := Cert.OpRefIdeal.τ) (Cert.OpRefIdeal.main (F := Ideal))) ⟨m, fun _ => 0, g⟩ (fun r => (∀ c : Dev Cert.OpRefIdeal.nD,
      r.2.mem ((c.tc : Thread Cert.OpRefIdeal.nD Cert.OpRefIdeal.τ).loc Cert.OpRefIdeal.main_arg0) = m ((c.tc : Thread Cert.OpRefIdeal.nD Cert.OpRefIdeal.τ).loc Cert.OpRefIdeal.main_arg0)
      ∧ r.2.mem ((c.tc : Thread Cert.OpRefIdeal.nD Cert.OpRefIdeal.τ).loc Cert.OpRefIdeal.main_arg1) = m ((c.tc : Thread Cert.OpRefIdeal.nD Cert.OpRefIdeal.τ).loc Cert.OpRefIdeal.main_arg1)
      ∧ r.2.mem ((c.tc : Thread Cert.OpRefIdeal.nD Cert.OpRefIdeal.τ).loc Cert.OpRefIdeal.main_arg2) = m ((c.tc : Thread Cert.OpRefIdeal.nD Cert.OpRefIdeal.τ).loc Cert.OpRefIdeal.main_arg2)
      ∧ r.2.mem ((c.tc : Thread Cert.OpRefIdeal.nD Cert.OpRefIdeal.τ).loc Cert.OpRefIdeal.main_arg3) = m ((c.tc : Thread Cert.OpRefIdeal.nD Cert.OpRefIdeal.τ).loc Cert.OpRefIdeal.main_arg3)
      ∧ r.2.mem ((c.tc : Thread Cert.OpRefIdeal.nD Cert.OpRefIdeal.τ).loc Cert.OpRefIdeal.main_arg4) = m ((c.tc : Thread Cert.OpRefIdeal.nD Cert.OpRefIdeal.τ).loc Cert.OpRefIdeal.main_arg4))
      ∧ r.2.sem = fun _ => 0)

def preserves_Ff_FfIdeal : Prop :=
  IdealRules.named_const.Statement Cert.FfIdeal.κ "log2e" .f32 0x3FB8AA3B#32 (((Real.log 2)⁻¹ : ℝ) : EReal)

def algebraic_FfIdeal_FfRefIdeal [hFfIdeal : Cert.FfIdeal.Facts] [hFfRefIdeal : Cert.FfRefIdeal.Facts] : Prop :=
  ∀ (m : (ℓ : Loc Cert.FfIdeal.nD Cert.FfIdeal.τ Cert.FfIdeal.sig) → Buf (Elt Ideal) ℓ) (g : Dev Cert.FfIdeal.nD → PrngReg)
    (m' : (ℓ : Loc Cert.FfRefIdeal.nD Cert.FfRefIdeal.τ Cert.FfRefIdeal.sig) → Buf (Elt Ideal) ℓ) (g' : Dev Cert.FfRefIdeal.nD → PrngReg), Pre_FfIdeal m →
    (∀ c : Dev Cert.FfIdeal.nD,
      m' ((c.tc : Thread Cert.FfRefIdeal.nD Cert.FfRefIdeal.τ).loc Cert.FfRefIdeal.main_arg0) = m ((c.tc : Thread Cert.FfIdeal.nD Cert.FfIdeal.τ).loc Cert.FfIdeal.main_arg0)
      ∧ m' ((c.tc : Thread Cert.FfRefIdeal.nD Cert.FfRefIdeal.τ).loc Cert.FfRefIdeal.main_arg1) = m ((c.tc : Thread Cert.FfIdeal.nD Cert.FfIdeal.τ).loc Cert.FfIdeal.main_arg1)
      ∧ m' ((c.tc : Thread Cert.FfRefIdeal.nD Cert.FfRefIdeal.τ).loc Cert.FfRefIdeal.main_arg2) = m ((c.tc : Thread Cert.FfIdeal.nD Cert.FfIdeal.τ).loc Cert.FfIdeal.main_arg2)
      ∧ m' ((c.tc : Thread Cert.FfRefIdeal.nD Cert.FfRefIdeal.τ).loc Cert.FfRefIdeal.main_arg3) = m ((c.tc : Thread Cert.FfIdeal.nD Cert.FfIdeal.τ).loc Cert.FfIdeal.main_arg3)
      ∧ m' ((c.tc : Thread Cert.FfRefIdeal.nD Cert.FfRefIdeal.τ).loc Cert.FfRefIdeal.main_arg4) = m ((c.tc : Thread Cert.FfIdeal.nD Cert.FfIdeal.τ).loc Cert.FfIdeal.main_arg4)
      ∧ m' ((c.tc : Thread Cert.FfRefIdeal.nD Cert.FfRefIdeal.τ).loc Cert.FfRefIdeal.main_arg5) = m ((c.tc : Thread Cert.FfIdeal.nD Cert.FfIdeal.τ).loc Cert.FfIdeal.main_arg5)) →
    ∃ (v0 : (c : Dev Cert.FfIdeal.nD) → Buf (Elt Ideal) ((c.tc : Thread Cert.FfIdeal.nD Cert.FfIdeal.τ).loc Cert.FfIdeal.main_v0_0)) (v1 : (c : Dev Cert.FfIdeal.nD) → Buf (Elt Ideal) ((c.tc : Thread Cert.FfIdeal.nD Cert.FfIdeal.τ).loc Cert.FfIdeal.main_v0_1)) (v2 : (c : Dev Cert.FfIdeal.nD) → Buf (Elt Ideal) ((c.tc : Thread Cert.FfIdeal.nD Cert.FfIdeal.τ).loc Cert.FfIdeal.main_v0_2)) (v3 : (c : Dev Cert.FfIdeal.nD) → Buf (Elt Ideal) ((c.tc : Thread Cert.FfIdeal.nD Cert.FfIdeal.τ).loc Cert.FfIdeal.main_v0_3)),
      θ_run (Cert.FfIdeal.defs (F := Ideal)) (onTc (τ := Cert.FfIdeal.τ) (Cert.FfIdeal.main (F := Ideal))) ⟨m, fun _ => 0, g⟩ (fun r => ∀ c : Dev Cert.FfIdeal.nD,
          r.2.mem ((c.tc : Thread Cert.FfIdeal.nD Cert.FfIdeal.τ).loc Cert.FfIdeal.main_v0_0) = v0 c
          ∧ r.2.mem ((c.tc : Thread Cert.FfIdeal.nD Cert.FfIdeal.τ).loc Cert.FfIdeal.main_v0_1) = v1 c
          ∧ r.2.mem ((c.tc : Thread Cert.FfIdeal.nD Cert.FfIdeal.τ).loc Cert.FfIdeal.main_v0_2) = v2 c
          ∧ r.2.mem ((c.tc : Thread Cert.FfIdeal.nD Cert.FfIdeal.τ).loc Cert.FfIdeal.main_v0_3) = v3 c
          ∧ r.2.mem ((c.tc : Thread Cert.FfIdeal.nD Cert.FfIdeal.τ).loc Cert.FfIdeal.main_arg0) = m ((c.tc : Thread Cert.FfIdeal.nD Cert.FfIdeal.τ).loc Cert.FfIdeal.main_arg0)
          ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
          ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
          ∧ r.2.mem ((c.tc : Thread Cert.FfIdeal.nD Cert.FfIdeal.τ).loc Cert.FfIdeal.main_arg3) = m ((c.tc : Thread Cert.FfIdeal.nD Cert.FfIdeal.τ).loc Cert.FfIdeal.main_arg3)
          ∧ r.2.mem ((c.tc : Thread Cert.FfIdeal.nD Cert.FfIdeal.τ).loc Cert.FfIdeal.main_arg4) = m ((c.tc : Thread Cert.FfIdeal.nD Cert.FfIdeal.τ).loc Cert.FfIdeal.main_arg4)
          ∧ r.2.mem ((c.tc : Thread Cert.FfIdeal.nD Cert.FfIdeal.τ).loc Cert.FfIdeal.main_arg5) = m ((c.tc : Thread Cert.FfIdeal.nD Cert.FfIdeal.τ).loc Cert.FfIdeal.main_arg5))
      ∧ θ_run (Cert.FfRefIdeal.defs (F := Ideal)) (onTc (τ := Cert.FfRefIdeal.τ) (Cert.FfRefIdeal.main (F := Ideal))) ⟨m', fun _ => 0, g'⟩ (fun r => ∀ c : Dev Cert.FfRefIdeal.nD,
          r.2.mem ((c.tc : Thread Cert.FfRefIdeal.nD Cert.FfRefIdeal.τ).loc Cert.FfRefIdeal.main_v0_0) = v0 c
          ∧ r.2.mem ((c.tc : Thread Cert.FfRefIdeal.nD Cert.FfRefIdeal.τ).loc Cert.FfRefIdeal.main_v0_1) = v1 c
          ∧ r.2.mem ((c.tc : Thread Cert.FfRefIdeal.nD Cert.FfRefIdeal.τ).loc Cert.FfRefIdeal.main_v0_2) = v2 c
          ∧ r.2.mem ((c.tc : Thread Cert.FfRefIdeal.nD Cert.FfRefIdeal.τ).loc Cert.FfRefIdeal.main_v0_3) = v3 c
          ∧ r.2.mem ((c.tc : Thread Cert.FfRefIdeal.nD Cert.FfRefIdeal.τ).loc Cert.FfRefIdeal.main_arg0) = m' ((c.tc : Thread Cert.FfRefIdeal.nD Cert.FfRefIdeal.τ).loc Cert.FfRefIdeal.main_arg0)
          ∧ r.2.mem ((c.tc : Thread Cert.FfRefIdeal.nD Cert.FfRefIdeal.τ).loc Cert.FfRefIdeal.main_arg1) = m' ((c.tc : Thread Cert.FfRefIdeal.nD Cert.FfRefIdeal.τ).loc Cert.FfRefIdeal.main_arg1)
          ∧ r.2.mem ((c.tc : Thread Cert.FfRefIdeal.nD Cert.FfRefIdeal.τ).loc Cert.FfRefIdeal.main_arg2) = m' ((c.tc : Thread Cert.FfRefIdeal.nD Cert.FfRefIdeal.τ).loc Cert.FfRefIdeal.main_arg2)
          ∧ r.2.mem ((c.tc : Thread Cert.FfRefIdeal.nD Cert.FfRefIdeal.τ).loc Cert.FfRefIdeal.main_arg3) = m' ((c.tc : Thread Cert.FfRefIdeal.nD Cert.FfRefIdeal.τ).loc Cert.FfRefIdeal.main_arg3)
          ∧ r.2.mem ((c.tc : Thread Cert.FfRefIdeal.nD Cert.FfRefIdeal.τ).loc Cert.FfRefIdeal.main_arg4) = m' ((c.tc : Thread Cert.FfRefIdeal.nD Cert.FfRefIdeal.τ).loc Cert.FfRefIdeal.main_arg4)
          ∧ r.2.mem ((c.tc : Thread Cert.FfRefIdeal.nD Cert.FfRefIdeal.τ).loc Cert.FfRefIdeal.main_arg5) = m' ((c.tc : Thread Cert.FfRefIdeal.nD Cert.FfRefIdeal.τ).loc Cert.FfRefIdeal.main_arg5))

def preserves_Op_OpIdeal : Prop :=
  IdealRules.named_const.Statement Cert.OpIdeal.κ "log2e" .f32 0x3FB8AA3B#32 (((Real.log 2)⁻¹ : ℝ) : EReal)

def algebraic_OpIdeal_OpRefIdeal [hOpIdeal : Cert.OpIdeal.Facts] [hOpRefIdeal : Cert.OpRefIdeal.Facts] : Prop :=
  ∀ (m : (ℓ : Loc Cert.OpIdeal.nD Cert.OpIdeal.τ Cert.OpIdeal.sig) → Buf (Elt Ideal) ℓ) (g : Dev Cert.OpIdeal.nD → PrngReg)
    (m' : (ℓ : Loc Cert.OpRefIdeal.nD Cert.OpRefIdeal.τ Cert.OpRefIdeal.sig) → Buf (Elt Ideal) ℓ) (g' : Dev Cert.OpRefIdeal.nD → PrngReg), Pre_OpIdeal m →
    (∀ c : Dev Cert.OpIdeal.nD,
      m' ((c.tc : Thread Cert.OpRefIdeal.nD Cert.OpRefIdeal.τ).loc Cert.OpRefIdeal.main_arg0) = m ((c.tc : Thread Cert.OpIdeal.nD Cert.OpIdeal.τ).loc Cert.OpIdeal.main_arg0)
      ∧ m' ((c.tc : Thread Cert.OpRefIdeal.nD Cert.OpRefIdeal.τ).loc Cert.OpRefIdeal.main_arg1) = m ((c.tc : Thread Cert.OpIdeal.nD Cert.OpIdeal.τ).loc Cert.OpIdeal.main_arg1)
      ∧ m' ((c.tc : Thread Cert.OpRefIdeal.nD Cert.OpRefIdeal.τ).loc Cert.OpRefIdeal.main_arg2) = m ((c.tc : Thread Cert.OpIdeal.nD Cert.OpIdeal.τ).loc Cert.OpIdeal.main_arg2)
      ∧ m' ((c.tc : Thread Cert.OpRefIdeal.nD Cert.OpRefIdeal.τ).loc Cert.OpRefIdeal.main_arg3) = m ((c.tc : Thread Cert.OpIdeal.nD Cert.OpIdeal.τ).loc Cert.OpIdeal.main_arg3)
      ∧ m' ((c.tc : Thread Cert.OpRefIdeal.nD Cert.OpRefIdeal.τ).loc Cert.OpRefIdeal.main_arg4) = m ((c.tc : Thread Cert.OpIdeal.nD Cert.OpIdeal.τ).loc Cert.OpIdeal.main_arg4)) →
    ∃ (v0 : (c : Dev Cert.OpIdeal.nD) → Buf (Elt Ideal) ((c.tc : Thread Cert.OpIdeal.nD Cert.OpIdeal.τ).loc Cert.OpIdeal.main_v0_0)) (v1 : (c : Dev Cert.OpIdeal.nD) → Buf (Elt Ideal) ((c.tc : Thread Cert.OpIdeal.nD Cert.OpIdeal.τ).loc Cert.OpIdeal.main_v0_1)) (v2 : (c : Dev Cert.OpIdeal.nD) → Buf (Elt Ideal) ((c.tc : Thread Cert.OpIdeal.nD Cert.OpIdeal.τ).loc Cert.OpIdeal.main_v0_2)) (v3 : (c : Dev Cert.OpIdeal.nD) → Buf (Elt Ideal) ((c.tc : Thread Cert.OpIdeal.nD Cert.OpIdeal.τ).loc Cert.OpIdeal.main_v0_3)) (v4 : (c : Dev Cert.OpIdeal.nD) → Buf (Elt Ideal) ((c.tc : Thread Cert.OpIdeal.nD Cert.OpIdeal.τ).loc Cert.OpIdeal.main_v0_4)),
      θ_run (Cert.OpIdeal.defs (F := Ideal)) (onTc (τ := Cert.OpIdeal.τ) (Cert.OpIdeal.main (F := Ideal))) ⟨m, fun _ => 0, g⟩ (fun r => ∀ c : Dev Cert.OpIdeal.nD,
          r.2.mem ((c.tc : Thread Cert.OpIdeal.nD Cert.OpIdeal.τ).loc Cert.OpIdeal.main_v0_0) = v0 c
          ∧ r.2.mem ((c.tc : Thread Cert.OpIdeal.nD Cert.OpIdeal.τ).loc Cert.OpIdeal.main_v0_1) = v1 c
          ∧ r.2.mem ((c.tc : Thread Cert.OpIdeal.nD Cert.OpIdeal.τ).loc Cert.OpIdeal.main_v0_2) = v2 c
          ∧ r.2.mem ((c.tc : Thread Cert.OpIdeal.nD Cert.OpIdeal.τ).loc Cert.OpIdeal.main_v0_3) = v3 c
          ∧ r.2.mem ((c.tc : Thread Cert.OpIdeal.nD Cert.OpIdeal.τ).loc Cert.OpIdeal.main_v0_4) = v4 c
          ∧ r.2.mem ((c.tc : Thread Cert.OpIdeal.nD Cert.OpIdeal.τ).loc Cert.OpIdeal.main_arg0) = m ((c.tc : Thread Cert.OpIdeal.nD Cert.OpIdeal.τ).loc Cert.OpIdeal.main_arg0)
          ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
          ∧ r.2.mem ((c.tc : Thread Cert.OpIdeal.nD Cert.OpIdeal.τ).loc Cert.OpIdeal.main_arg2) = m ((c.tc : Thread Cert.OpIdeal.nD Cert.OpIdeal.τ).loc Cert.OpIdeal.main_arg2)
          ∧ r.2.mem ((c.tc : Thread Cert.OpIdeal.nD Cert.OpIdeal.τ).loc Cert.OpIdeal.main_arg3) = m ((c.tc : Thread Cert.OpIdeal.nD Cert.OpIdeal.τ).loc Cert.OpIdeal.main_arg3)
          ∧ r.2.mem ((c.tc : Thread Cert.OpIdeal.nD Cert.OpIdeal.τ).loc Cert.OpIdeal.main_arg4) = m ((c.tc : Thread Cert.OpIdeal.nD Cert.OpIdeal.τ).loc Cert.OpIdeal.main_arg4))
      ∧ θ_run (Cert.OpRefIdeal.defs (F := Ideal)) (onTc (τ := Cert.OpRefIdeal.τ) (Cert.OpRefIdeal.main (F := Ideal))) ⟨m', fun _ => 0, g'⟩ (fun r => ∀ c : Dev Cert.OpRefIdeal.nD,
          r.2.mem ((c.tc : Thread Cert.OpRefIdeal.nD Cert.OpRefIdeal.τ).loc Cert.OpRefIdeal.main_v0_0) = v0 c
          ∧ r.2.mem ((c.tc : Thread Cert.OpRefIdeal.nD Cert.OpRefIdeal.τ).loc Cert.OpRefIdeal.main_v0_1) = v1 c
          ∧ r.2.mem ((c.tc : Thread Cert.OpRefIdeal.nD Cert.OpRefIdeal.τ).loc Cert.OpRefIdeal.main_v0_2) = v2 c
          ∧ r.2.mem ((c.tc : Thread Cert.OpRefIdeal.nD Cert.OpRefIdeal.τ).loc Cert.OpRefIdeal.main_v0_3) = v3 c
          ∧ r.2.mem ((c.tc : Thread Cert.OpRefIdeal.nD Cert.OpRefIdeal.τ).loc Cert.OpRefIdeal.main_v0_4) = v4 c
          ∧ r.2.mem ((c.tc : Thread Cert.OpRefIdeal.nD Cert.OpRefIdeal.τ).loc Cert.OpRefIdeal.main_arg0) = m' ((c.tc : Thread Cert.OpRefIdeal.nD Cert.OpRefIdeal.τ).loc Cert.OpRefIdeal.main_arg0)
          ∧ r.2.mem ((c.tc : Thread Cert.OpRefIdeal.nD Cert.OpRefIdeal.τ).loc Cert.OpRefIdeal.main_arg1) = m' ((c.tc : Thread Cert.OpRefIdeal.nD Cert.OpRefIdeal.τ).loc Cert.OpRefIdeal.main_arg1)
          ∧ r.2.mem ((c.tc : Thread Cert.OpRefIdeal.nD Cert.OpRefIdeal.τ).loc Cert.OpRefIdeal.main_arg2) = m' ((c.tc : Thread Cert.OpRefIdeal.nD Cert.OpRefIdeal.τ).loc Cert.OpRefIdeal.main_arg2)
          ∧ r.2.mem ((c.tc : Thread Cert.OpRefIdeal.nD Cert.OpRefIdeal.τ).loc Cert.OpRefIdeal.main_arg3) = m' ((c.tc : Thread Cert.OpRefIdeal.nD Cert.OpRefIdeal.τ).loc Cert.OpRefIdeal.main_arg3)
          ∧ r.2.mem ((c.tc : Thread Cert.OpRefIdeal.nD Cert.OpRefIdeal.τ).loc Cert.OpRefIdeal.main_arg4) = m' ((c.tc : Thread Cert.OpRefIdeal.nD Cert.OpRefIdeal.τ).loc Cert.OpRefIdeal.main_arg4))

def Claim : Prop :=
  ∃ (hFf : Cert.Ff.Facts) (hFfIdeal : Cert.FfIdeal.Facts) (hFfRefIdeal : Cert.FfRefIdeal.Facts) (hOp : Cert.Op.Facts) (hOpIdeal : Cert.OpIdeal.Facts) (hOpRefIdeal : Cert.OpRefIdeal.Facts),
    quiescent_Ff (hFf := hFf)
    ∧ quiescent_FfIdeal (hFfIdeal := hFfIdeal)
    ∧ quiescent_FfRefIdeal (hFfRefIdeal := hFfRefIdeal)
    ∧ quiescent_Op (hOp := hOp)
    ∧ quiescent_OpIdeal (hOpIdeal := hOpIdeal)
    ∧ quiescent_OpRefIdeal (hOpRefIdeal := hOpRefIdeal)
    ∧ preserves_Ff_FfIdeal
    ∧ algebraic_FfIdeal_FfRefIdeal (hFfIdeal := hFfIdeal) (hFfRefIdeal := hFfRefIdeal)
    ∧ preserves_Op_OpIdeal
    ∧ algebraic_OpIdeal_OpRefIdeal (hOpIdeal := hOpIdeal) (hOpRefIdeal := hOpRefIdeal)
-- ==== Ff.lean ====
abbrev S1536x2048 : Shape := ⟨2, ![1536, 2048]⟩
abbrev S2x2048x8192 : Shape := ⟨3, ![2, 2048, 8192]⟩
abbrev S8192x2048 : Shape := ⟨2, ![8192, 2048]⟩
abbrev S2 : Shape := ⟨1, ![2]⟩
abbrev S1x2048 : Shape := ⟨2, ![1, 2048]⟩
abbrev S1536x8192 : Shape := ⟨2, ![1536, 8192]⟩
abbrev S256x1536 : Shape := ⟨2, ![256, 1536]⟩
abbrev S2x2048x512 : Shape := ⟨3, ![2, 2048, 512]⟩
abbrev S512x2048 : Shape := ⟨2, ![512, 2048]⟩
abbrev S1536x512 : Shape := ⟨2, ![1536, 512]⟩
abbrev S16x1536 : Shape := ⟨2, ![16, 1536]⟩
abbrev S256x2048 : Shape := ⟨2, ![256, 2048]⟩
abbrev S3 : Shape := ⟨1, ![3]⟩
abbrev S1x2048x512 : Shape := ⟨3, ![1, 2048, 512]⟩
abbrev S2048x512 : Shape := ⟨2, ![2048, 512]⟩
abbrev S256x512 : Shape := ⟨2, ![256, 512]⟩
abbrev S1 : Shape := ⟨1, ![1]⟩
abbrev S512x256 : Shape := ⟨2, ![512, 256]⟩
abbrev S16x32x256 : Shape := ⟨3, ![16, 32, 256]⟩
abbrev S16x256 : Shape := ⟨2, ![16, 256]⟩
abbrev S16x1x256 : Shape := ⟨3, ![16, 1, 256]⟩
abbrev S_ : Shape := ⟨0, ![]⟩
abbrev S256 : Shape := ⟨1, ![256]⟩
abbrev S256x1 : Shape := ⟨2, ![256, 1]⟩

abbrev nBuf : Space → Nat
  | .hbm => 10
  | .vmem => 14
  | .smem => 1
  | _ => 0

abbrev bufTy : (tb : Table) → Fin (tcTables nBuf tb) → BufTy
  | .hbm, ⟨0, _⟩ => ⟨S1536x2048, .bf16⟩
  | .hbm, ⟨1, _⟩ => ⟨S2x2048x8192, .fp8e4m3⟩
  | .hbm, ⟨2, _⟩ => ⟨S8192x2048, .fp8e4m3⟩
  | .hbm, ⟨3, _⟩ => ⟨S2, .f32⟩
  | .hbm, ⟨4, _⟩ => ⟨S1536x2048, .f32⟩
  | .hbm, ⟨5, _⟩ => ⟨S1x2048, .f32⟩
  | .hbm, ⟨6, _⟩ => ⟨S1536x2048, .bf16⟩
  | .hbm, ⟨7, _⟩ => ⟨S1536x2048, .bf16⟩
  | .hbm, ⟨8, _⟩ => ⟨S1536x8192, .fp8e4m3⟩
  | .hbm, ⟨9, _⟩ => ⟨S256x1536, .f32⟩
  | .local _ .vmem, ⟨0, _⟩ => ⟨S1536x2048, .bf16⟩
  | .local _ .vmem, ⟨1, _⟩ => ⟨S2x2048x512, .fp8e4m3⟩
  | .local _ .vmem, ⟨2, _⟩ => ⟨S2x2048x512, .fp8e4m3⟩
  | .local _ .vmem, ⟨3, _⟩ => ⟨S512x2048, .fp8e4m3⟩
  | .local _ .vmem, ⟨4, _⟩ => ⟨S512x2048, .fp8e4m3⟩
  | .local _ .vmem, ⟨5, _⟩ => ⟨S1x2048, .f32⟩
  | .local _ .vmem, ⟨6, _⟩ => ⟨S1536x512, .fp8e4m3⟩
  | .local _ .vmem, ⟨7, _⟩ => ⟨S1536x512, .fp8e4m3⟩
  | .local _ .vmem, ⟨8, _⟩ => ⟨S16x1536, .f32⟩
  | .local _ .vmem, ⟨9, _⟩ => ⟨S16x1536, .f32⟩
  | .local _ .vmem, ⟨10, _⟩ => ⟨S1536x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .smem, ⟨0, _⟩ => ⟨S2, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfIdeal.lean ====
variable {F : FTy → Type} [FloatOps F] [Named F]
def κ : String → Option EReal := fun
  | "log2e" => some (((Real.log 2)⁻¹ : ℝ) : EReal)
  | _ => none
-- ==== FfRefIdeal.lean ====
abbrev S1536x2048 : Shape := ⟨2, ![1536, 2048]⟩
abbrev S2x2048x8192 : Shape := ⟨3, ![2, 2048, 8192]⟩
abbrev S8192x2048 : Shape := ⟨2, ![8192, 2048]⟩
abbrev S2 : Shape := ⟨1, ![2]⟩
abbrev S1x2048 : Shape := ⟨2, ![1, 2048]⟩
abbrev S1536x8192 : Shape := ⟨2, ![1536, 8192]⟩
abbrev S256x1536 : Shape := ⟨2, ![256, 1536]⟩
abbrev S1x2048x8192 : Shape := ⟨3, ![1, 2048, 8192]⟩
abbrev S2048x8192 : Shape := ⟨2, ![2048, 8192]⟩
abbrev S1 : Shape := ⟨1, ![1]⟩
abbrev S8192x1536 : Shape := ⟨2, ![8192, 1536]⟩
abbrev S256x32x1536 : Shape := ⟨3, ![256, 32, 1536]⟩
abbrev S256x1x1536 : Shape := ⟨3, ![256, 1, 1536]⟩
abbrev S1536 : Shape := ⟨1, ![1536]⟩
abbrev S1536x1 : Shape := ⟨2, ![1536, 1]⟩

abbrev nBuf : Space → Nat
  | .hbm => 10
  | .vmem => 9
  | .smem => 1
  | _ => 0

abbrev bufTy : (tb : Table) → Fin (tcTables nBuf tb) → BufTy
  | .hbm, ⟨0, _⟩ => ⟨S1536x2048, .bf16⟩
  | .hbm, ⟨1, _⟩ => ⟨S2x2048x8192, .fp8e4m3⟩
  | .hbm, ⟨2, _⟩ => ⟨S8192x2048, .fp8e4m3⟩
  | .hbm, ⟨3, _⟩ => ⟨S2, .f32⟩
  | .hbm, ⟨4, _⟩ => ⟨S1536x2048, .f32⟩
  | .hbm, ⟨5, _⟩ => ⟨S1x2048, .f32⟩
  | .hbm, ⟨6, _⟩ => ⟨S1536x2048, .bf16⟩
  | .hbm, ⟨7, _⟩ => ⟨S1536x2048, .bf16⟩
  | .hbm, ⟨8, _⟩ => ⟨S1536x8192, .fp8e4m3⟩
  | .hbm, ⟨9, _⟩ => ⟨S256x1536, .f32⟩
  | .local _ .vmem, ⟨0, _⟩ => ⟨S1536x2048, .bf16⟩
  | .local _ .vmem, ⟨1, _⟩ => ⟨S2x2048x8192, .fp8e4m3⟩
  | .local _ .vmem, ⟨2, _⟩ => ⟨S8192x2048, .fp8e4m3⟩
  | .local _ .vmem, ⟨3, _⟩ => ⟨S1536x2048, .f32⟩
  | .local _ .vmem, ⟨4, _⟩ => ⟨S1x2048, .f32⟩
  | .local _ .vmem, ⟨5, _⟩ => ⟨S1536x2048, .bf16⟩
  | .local _ .vmem, ⟨6, _⟩ => ⟨S1536x2048, .bf16⟩
  | .local _ .vmem, ⟨7, _⟩ => ⟨S1536x8192, .fp8e4m3⟩
  | .local _ .vmem, ⟨8, _⟩ => ⟨S256x1536, .f32⟩
  | .local _ .smem, ⟨0, _⟩ => ⟨S2, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Op.lean ====
abbrev S1536x2048 : Shape := ⟨2, ![1536, 2048]⟩
abbrev S2048x2048 : Shape := ⟨2, ![2048, 2048]⟩
abbrev S1 : Shape := ⟨1, ![1]⟩
abbrev S1x2048 : Shape := ⟨2, ![1, 2048]⟩
abbrev S3x64x512 : Shape := ⟨3, ![3, 64, 512]⟩
abbrev S256x2048 : Shape := ⟨2, ![256, 2048]⟩
abbrev S1x64x256 : Shape := ⟨3, ![1, 64, 256]⟩
abbrev S256 : Shape := ⟨1, ![256]⟩
abbrev S256x1 : Shape := ⟨2, ![256, 1]⟩
abbrev S2048x256 : Shape := ⟨2, ![2048, 256]⟩
abbrev S64x32x256 : Shape := ⟨3, ![64, 32, 256]⟩
abbrev S64x256 : Shape := ⟨2, ![64, 256]⟩
abbrev S64x1x256 : Shape := ⟨3, ![64, 1, 256]⟩

abbrev nBuf : Space → Nat
  | .hbm => 10
  | .vmem => 16
  | .smem => 1
  | _ => 0

abbrev bufTy : (tb : Table) → Fin (tcTables nBuf tb) → BufTy
  | .hbm, ⟨0, _⟩ => ⟨S1536x2048, .bf16⟩
  | .hbm, ⟨1, _⟩ => ⟨S2048x2048, .fp8e4m3⟩
  | .hbm, ⟨2, _⟩ => ⟨S1, .f32⟩
  | .hbm, ⟨3, _⟩ => ⟨S1536x2048, .bf16⟩
  | .hbm, ⟨4, _⟩ => ⟨S1x2048, .f32⟩
  | .hbm, ⟨5, _⟩ => ⟨S1536x2048, .bf16⟩
  | .hbm, ⟨6, _⟩ => ⟨S1536x2048, .f32⟩
  | .hbm, ⟨7, _⟩ => ⟨S1536x2048, .fp8e4m3⟩
  | .hbm, ⟨8, _⟩ => ⟨S3x64x512, .f32⟩
  | .hbm, ⟨9, _⟩ => ⟨S1536x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .fp8e4m3⟩
  | .local _ .vmem, ⟨3, _⟩ => ⟨S256x2048, .bf16⟩
  | .local _ .vmem, ⟨4, _⟩ => ⟨S256x2048, .bf16⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .fp8e4m3⟩
  | .local _ .vmem, ⟨11, _⟩ => ⟨S256x2048, .fp8e4m3⟩
  | .local _ .vmem, ⟨12, _⟩ => ⟨S1x64x256, .f32⟩
  | .local _ .vmem, ⟨13, _⟩ => ⟨S1x64x256, .f32⟩
  | .local _ .vmem, ⟨14, _⟩ => ⟨S256x2048, .bf16⟩
  | .local _ .vmem, ⟨15, _⟩ => ⟨S256x2048, .bf16⟩
  | .local _ .smem, ⟨0, _⟩ => ⟨S1, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OpIdeal.lean ====
variable {F : FTy → Type} [FloatOps F] [Named F]
def κ : String → Option EReal := fun
  | "log2e" => some (((Real.log 2)⁻¹ : ℝ) : EReal)
  | _ => none
-- ==== OpRefIdeal.lean ====
abbrev S1536x2048 : Shape := ⟨2, ![1536, 2048]⟩
abbrev S2048x2048 : Shape := ⟨2, ![2048, 2048]⟩
abbrev S1 : Shape := ⟨1, ![1]⟩
abbrev S1x2048 : Shape := ⟨2, ![1, 2048]⟩
abbrev S3x64x512 : Shape := ⟨3, ![3, 64, 512]⟩
abbrev S1536 : Shape := ⟨1, ![1536]⟩
abbrev S1536x1 : Shape := ⟨2, ![1536, 1]⟩
abbrev S2048x1536 : Shape := ⟨2, ![2048, 1536]⟩
abbrev S64x32x1536 : Shape := ⟨3, ![64, 32, 1536]⟩
abbrev S64x1536 : Shape := ⟨2, ![64, 1536]⟩
abbrev S64x1x1536 : Shape := ⟨3, ![64, 1, 1536]⟩
abbrev S64x3x512 : Shape := ⟨3, ![64, 3, 512]⟩

abbrev nBuf : Space → Nat
  | .hbm => 10
  | .vmem => 9
  | .smem => 1
  | _ => 0

abbrev bufTy : (tb : Table) → Fin (tcTables nBuf tb) → BufTy
  | .hbm, ⟨0, _⟩ => ⟨S1536x2048, .bf16⟩
  | .hbm, ⟨1, _⟩ => ⟨S2048x2048, .fp8e4m3⟩
  | .hbm, ⟨2, _⟩ => ⟨S1, .f32⟩
  | .hbm, ⟨3, _⟩ => ⟨S1536x2048, .bf16⟩
  | .hbm, ⟨4, _⟩ => ⟨S1x2048, .f32⟩
  | .hbm, ⟨5, _⟩ => ⟨S1536x2048, .bf16⟩
  | .hbm, ⟨6, _⟩ => ⟨S1536x2048, .f32⟩
  | .hbm, ⟨7, _⟩ => ⟨S1536x2048, .fp8e4m3⟩
  | .hbm, ⟨8, _⟩ => ⟨S3x64x512, .f32⟩
  | .hbm, ⟨9, _⟩ => ⟨S1536x2048, .bf16⟩
  | .local _ .vmem, ⟨0, _⟩ => ⟨S1536x2048, .bf16⟩
  | .local _ .vmem, ⟨1, _⟩ => ⟨S2048x2048, .fp8e4m3⟩
  | .local _ .vmem, ⟨2, _⟩ => ⟨S1536x2048, .bf16⟩
  | .local _ .vmem, ⟨3, _⟩ => ⟨S1x2048, .f32⟩
  | .local _ .vmem, ⟨4, _⟩ => ⟨S1536x2048, .bf16⟩
  | .local _ .vmem, ⟨5, _⟩ => ⟨S1536x2048, .f32⟩
  | .local _ .vmem, ⟨6, _⟩ => ⟨S1536x2048, .fp8e4m3⟩
  | .local _ .vmem, ⟨7, _⟩ => ⟨S3x64x512, .f32⟩
  | .local _ .vmem, ⟨8, _⟩ => ⟨S1536x2048, .bf16⟩
  | .local _ .smem, ⟨0, _⟩ => ⟨S1, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Quant.lean ====
module
public import Idealize.ShloMosaic.Lib.Pipeline.ValueKit
public import Idealize.ShloMosaic.Lib.Pointwise

/-! The block quantiser on extended reals: the scale that the kernel reads off the largest power of
two of a block is the scale of the block's largest magnitude, and dividing by it is multiplying by
the opposite power of two. -/

@[expose] public section

noncomputable section

namespace Cert.Quant

open Idealize.ShloMosaic

/-- The reciprocal of the natural logarithm of two. -/
def log2e : EReal := (((Real.log 2)⁻¹ : ℝ) : EReal)

/-- The factor 1/448 (as the nearest binary32 value). -/
def inv448 : EReal := Ideal.ofBits .f32 0x3B124925#32

/-- The exponent of the largest power of two not above `a / 448`. -/
def ex (a : EReal) : EReal := Ideal.liftRound Int.floor (Ideal.log (a * inv448) * log2e)

/-- The magnitude of a value. -/
def mag (x : EReal) : EReal := max x (-x)

/-- The largest value of a block of `n`. -/
def top {n : ℕ} (v : Fin n → EReal) : EReal :=
  Finset.fold max (Ideal.ofBits .f32 0xFF800000#32) v Finset.univ

/-- The kernel's block scale, from the largest power of two of the block's elements. -/
def kScale {n : ℕ} (v : Fin n → EReal) : EReal :=
  if top (fun k => Ideal.exp2 (ex (mag (v k)))) = 0 then 1
  else top (fun k => Ideal.exp2 (ex (mag (v k)))) * Ideal.ofBits .f32 0x40000000#32

/-- The reference's block exponent, from the block's largest magnitude. -/
def rExp {n : ℕ} (v : Fin n → EReal) : EReal :=
  if top (fun k => mag (v k)) = 0 then 0 else ex (top (fun k => mag (v k))) + 1

/-- Clipping to the range of the eight-bit format. -/
def clip (x : EReal) : EReal :=
  min (Ideal.ofBits .f32 0x43E00000#32) (max (Ideal.ofBits .f32 0xC3E00000#32) x)

theorem ofBits_neg_inf : Ideal.ofBits .f32 0xFF800000#32 = ⊥ := by
  simp [Ideal.ofBits, Ideal.ieee]

theorem ofBits_two : Ideal.ofBits .f32 0x40000000#32 = ((2 : ℝ) : EReal) := by
  simp [Ideal.ofBits, Ideal.ieee, -EReal.coe_mul]; norm_num

theorem inv448_pos : ∃ r : ℝ, 0 < r ∧ inv448 = (r : EReal) := by
  refine ⟨9586981 * 2 ^ (-32 : ℤ), by positivity, ?_⟩
  unfold inv448
  simp [Ideal.ofBits, Ideal.ieee, -EReal.coe_mul]

theorem log2e_pos : (0 : ℝ) < (Real.log 2)⁻¹ := inv_pos.mpr (Real.log_pos (by norm_num))

theorem top_eq_sup {n : ℕ} (v : Fin n → EReal) : top v = Finset.univ.sup v := by
  unfold top; rw [ofBits_neg_inf]; rfl

theorem log_mono : Monotone Ideal.log := by
  intro a b h
  induction a with
  | bot => exact bot_le
  | top => rw [top_le_iff.mp h]
  | coe x =>
    induction b with
    | bot => exact absurd h (by simp)
    | top => exact le_top
    | coe y =>
      have h' : x ≤ y := EReal.coe_le_coe_iff.mp h
      show (if x ≤ 0 then (⊥ : EReal) else (Real.log x : EReal)) ≤ if y ≤ 0 then ⊥ else (Real.log y : EReal)
      split_ifs with h1 h2 h2
      · exact le_rfl
      · exact bot_le
      · exact absurd (h'.trans h2) h1
      · exact EReal.coe_le_coe_iff.mpr (Real.log_le_log (not_le.mp h1) h')

theorem floor_mono : Monotone (Ideal.liftRound Int.floor) := by
  intro a b h
  induction a with
  | bot => exact bot_le
  | top => rw [top_le_iff.mp h]
  | coe x =>
    induction b with
    | bot => exact absurd h (by simp)
    | top => exact le_top
    | coe y =>
      exact EReal.coe_le_coe_iff.mpr (Int.cast_le.mpr (Int.floor_le_floor (EReal.coe_le_coe_iff.mp h)))

theorem exp2_mono : Monotone Ideal.exp2 := by
  intro a b h
  induction a with
  | bot =>
    induction b with
    | bot => exact le_rfl
    | top => exact le_top
    | coe y => exact EReal.coe_nonneg.mpr (Real.rpow_nonneg (by norm_num) y)
  | top => rw [top_le_iff.mp h]
  | coe x =>
    induction b with
    | bot => exact absurd h (by simp)
    | top => exact le_top
    | coe y =>
      exact EReal.coe_le_coe_iff.mpr (Real.rpow_le_rpow_of_exponent_le (by norm_num) (EReal.coe_le_coe_iff.mp h))

theorem ex_mono : Monotone ex := by
  obtain ⟨r, hr, e⟩ := inv448_pos
  intro a b h
  unfold ex
  refine floor_mono (mul_le_mul_of_nonneg_right (log_mono ?_) (EReal.coe_nonneg.mpr log2e_pos.le))
  rw [e]
  exact mul_le_mul_of_nonneg_right h (EReal.coe_nonneg.mpr hr.le)

theorem ex_zero : ex 0 = ⊥ := by
  unfold ex
  rw [zero_mul, show Ideal.log 0 = ⊥ from if_pos le_rfl, log2e, EReal.bot_mul_coe_of_pos log2e_pos]
  rfl

/-- Above zero the exponent is a real number or infinite. -/
theorem ex_pos {a : EReal} (h : 0 < a) : ex a = ⊤ ∨ ∃ x : ℝ, ex a = (x : EReal) := by
  obtain ⟨r, hr, e⟩ := inv448_pos
  unfold ex
  rw [e]
  induction a with
  | bot => exact absurd h (by simp)
  | top =>
    left
    rw [EReal.top_mul_coe_of_pos hr, show Ideal.log ⊤ = ⊤ from rfl, log2e, EReal.top_mul_coe_of_pos log2e_pos]
    rfl
  | coe x =>
    right
    have hx : 0 < x := EReal.coe_pos.mp h
    rw [← EReal.coe_mul, show Ideal.log ((x * r : ℝ) : EReal) = (Real.log (x * r) : EReal) from
      if_neg (not_le.mpr (mul_pos hx hr)), log2e, ← EReal.coe_mul]
    exact ⟨_, rfl⟩

theorem mag_nonneg (x : EReal) : 0 ≤ mag x := by
  unfold mag
  rcases le_total 0 x with h | h
  · exact le_max_of_le_left h
  · exact le_max_of_le_right (by simpa using EReal.neg_le_neg_iff.mpr h)

theorem top_mag_nonneg {n : ℕ} (hn : 0 < n) (v : Fin n → EReal) : 0 ≤ top fun k => mag (v k) := by
  rw [top_eq_sup]
  exact (mag_nonneg (v ⟨0, hn⟩)).trans (Finset.le_sup (f := fun k => mag (v k)) (Finset.mem_univ _))

/-- The largest power of two is the power of two of the largest. -/
theorem top_exp2 {n : ℕ} (hn : 0 < n) (v : Fin n → EReal) :
    top (fun k => Ideal.exp2 (ex (v k))) = Ideal.exp2 (ex (top v)) := by
  haveI : Nonempty (Fin n) := ⟨⟨0, hn⟩⟩
  rw [top_eq_sup, top_eq_sup]
  exact (Finset.comp_sup_eq_sup_comp_of_nonempty (g := fun a => Ideal.exp2 (ex a)) (exp2_mono.comp ex_mono)
    Finset.univ_nonempty).symm

theorem exp2_coe (x : ℝ) : Ideal.exp2 (x : EReal) = ((2 : ℝ) ^ x : ℝ) := rfl

theorem exp2_zero : Ideal.exp2 0 = 1 := by
  show ((Real.rpow 2 0 : ℝ) : EReal) = 1
  simp

/-- The kernel's scale is the reference's power of two. -/
theorem kScale_eq {n : ℕ} (hn : 0 < n) (v : Fin n → EReal) : kScale v = Ideal.exp2 (rExp v) := by
  unfold kScale rExp
  rw [top_exp2 hn fun k => mag (v k)]
  have h0 := top_mag_nonneg hn v
  generalize top (fun k => mag (v k)) = a at h0 ⊢
  by_cases ha : a = 0
  · rw [if_pos ha, ha, ex_zero, show Ideal.exp2 ⊥ = 0 from rfl, if_pos rfl, exp2_zero]
  · rw [if_neg ha, ofBits_two]
    rcases ex_pos (lt_of_le_of_ne h0 (Ne.symm ha)) with e | ⟨x, e⟩
    · rw [e, show Ideal.exp2 ⊤ = ⊤ from rfl, if_neg (by simp), EReal.top_mul_coe_of_pos (by norm_num)]
      rfl
    · have hp : (0 : ℝ) < 2 ^ x := Real.rpow_pos_of_pos (by norm_num) x
      rw [e, exp2_coe, if_neg (fun h => hp.ne' (EReal.coe_eq_zero.mp h)), ← EReal.coe_mul,
        show (x : EReal) + 1 = ((x + 1 : ℝ) : EReal) from rfl, exp2_coe, Real.rpow_add (by norm_num), Real.rpow_one]

/-- One over the kernel's scale is the opposite power of two. -/
theorem div_kScale {n : ℕ} (hn : 0 < n) (v : Fin n → EReal) :
    Ideal.div 1 (kScale v) = Ideal.exp2 (0 - rExp v) := by
  rw [kScale_eq hn]
  have h0 := top_mag_nonneg hn v
  have key : rExp v = ⊤ ∨ ∃ x : ℝ, rExp v = (x : EReal) := by
    unfold rExp
    generalize top (fun k => mag (v k)) = a at h0 ⊢
    by_cases ha : a = 0
    · rw [if_pos ha]; exact .inr ⟨0, rfl⟩
    · rw [if_neg ha]
      rcases ex_pos (lt_of_le_of_ne h0 (Ne.symm ha)) with e | ⟨x, e⟩
      · left; rw [e]; rfl
      · right; rw [e]; exact ⟨x + 1, rfl⟩
  rcases key with e | ⟨x, e⟩
  · rw [e, show Ideal.exp2 ⊤ = ⊤ from rfl, Ideal.div, if_neg (by simp), EReal.inv_top, mul_zero]
    rfl
  · have hp : (0 : ℝ) < 2 ^ x := Real.rpow_pos_of_pos (by norm_num) x
    rw [e, exp2_coe, Ideal.div, if_neg (fun h => hp.ne' (EReal.coe_eq_zero.mp h)), one_mul, zero_sub,
      ← EReal.coe_neg, exp2_coe, Real.rpow_neg (by norm_num), EReal.coe_inv]

end Cert.Quant

end
-- ==== Proof.FfMath.lean ====
module
public import proofs.«01_k».proof.Proof.Quant

/-! The feed-forward step as functions of whole arrays of extended reals. -/

@[expose] public section

noncomputable section

namespace Cert.FfMath

open Idealize.ShloMosaic Cert.Quant

/-- One activation: a row `x` against a gate column `g` and an up column `u`, each product scaled by
its factor, the gate through the logistic unit. -/
def act1 {n : ℕ} (x g u : Fin n → EReal) (s : EReal) : EReal :=
  (∑ k, x k * g k) * s * Ideal.logistic ((∑ k, x k * g k) * s) * ((∑ k, x k * u k) * s)

variable (hw : (⟨2, ![1536, 2048]⟩ : Shape).Idx → EReal) (wff : (⟨3, ![2, 2048, 8192]⟩ : Shape).Idx → EReal)
  (wd : (⟨2, ![8192, 2048]⟩ : Shape).Idx → EReal) (wsc : (⟨1, ![2]⟩ : Shape).Idx → EReal)

/-- The activation of token `i` at hidden column `j`. -/
def act (i : Fin 1536) (j : Fin 8192) : EReal :=
  act1 (fun k : Fin 2048 => hw (ix2 i k)) (fun k => wff (ix3 0 k j)) (fun k => wff (ix3 1 k j)) (wsc (ix1 0))

/-- The 32 activations of token `i` in hidden block `b`. -/
def group (i : Fin 1536) (b : Fin 256) (k : Fin 32) : EReal :=
  act hw wff wsc i ⟨b.val * 32 + k.val, by omega⟩

/-- The block exponents, by block and token. -/
def expo (b : Fin 256) (i : Fin 1536) : EReal := rExp (group hw wff wsc i b)

/-- The activation codes. -/
def codes (i : Fin 1536) (j : Fin 8192) : EReal :=
  clip (act hw wff wsc i j * Ideal.exp2 (0 - expo hw wff wsc ⟨j.val / 32, by omega⟩ i))

/-- The block scales, by block and token. -/
def scales (b : Fin 256) (i : Fin 1536) : EReal := Ideal.exp2 (expo hw wff wsc b i)

/-- A code widened by its block's scale. -/
def wide (i : Fin 1536) (j : Fin 8192) : EReal :=
  codes hw wff wsc i j * scales hw wff wsc ⟨j.val / 32, by omega⟩ i

/-- The widened codes against the down weights. -/
def prod (i : Fin 1536) (q : Fin 2048) : EReal := ∑ j : Fin 8192, wide hw wff wsc i j * wd (ix2 j q)

/-- The down product, scaled by its factor. -/
def down (i : Fin 1536) (q : Fin 2048) : EReal := prod hw wff wd wsc i q * wsc (ix1 1)

/-- One over the root of a row's mean square, the small constant added. -/
def rms (d : Fin 2048 → EReal) : EReal :=
  Ideal.rsqrt (Ideal.div (∑ k, d k * d k) (Ideal.ofBits .f32 0x45000000#32) + Ideal.ofBits .f32 0x358637BD#32)

/-- The layer's output: the residual and the normalised down product. -/
def out (h1 : (⟨2, ![1536, 2048]⟩ : Shape).Idx → EReal) (nw : (⟨2, ![1, 2048]⟩ : Shape).Idx → EReal)
    (i : Fin 1536) (q : Fin 2048) : EReal :=
  h1 (ix2 i q) + down hw wff wd wsc i q * rms (fun k => down hw wff wd wsc i k) * nw (ix2 0 q)

end Cert.FfMath

end
-- ==== Proof.FfTile.lean ====
module
public import proofs.«01_k».proof.Proof.FfMath
public import proofs.«01_k».proof.Proof.Gen.FfIdeal.Skeleton

/-! One row tile of the feed-forward body: the body treats six tiles of 256 rows one after the other
with the same operations, and here each tile's values are those of the first. -/

@[expose] public section

noncomputable section

set_option maxRecDepth 16384

namespace Cert.FfIdeal.Tile

open Idealize.ShloMosaic Cert.Quant Cert.FfMath Cert.FfIdeal Cert.FfIdeal.Gen

variable (x : Vec Ideal S256x2048 .bf16) (w w' : Vec Ideal S1x2048x512 .fp8e4m3) (s : Elt Ideal .f32)
  (a : Vec Ideal S256x2048 .f32) (d : Vec Ideal S512x2048 .fp8e4m3)

/-- A tile's activations. -/
def tAct : FVec Ideal S256x512 .f32 := k0_pay25 x w s x w' s
/-- A tile's block scales. -/
def tScale : FVec Ideal S16x256 .f32 := k0_pay29 (k0_pay27 x w s x w' s) (k0_pay28 x w s x w' s)
/-- A tile's codes. -/
def tCodes : FVec Ideal S256x512 .fp8e4m3 :=
  k0_pay30 (k0_pay25 x w s x w' s) (k0_pay27 x w s x w' s) (k0_pay28 x w s x w' s)
/-- A tile's rows of the running product, one hidden block added. -/
def tAcc : FVec Ideal S256x2048 .f32 :=
  k0_pay31 (k0_pay25 x w s x w' s) (k0_pay27 x w s x w' s) (k0_pay28 x w s x w' s) a d

/-! The scales of tiles 1 to 5. -/

theorem scale1 : k0_pay34 x (k0_pay32 w) s x w' s = tScale x w w' s := rfl
theorem scale2 : k0_pay41 (k0_pay38 x w s) x (k0_pay39 w') (constant S256x512 .f32 0x00000000#32) s = tScale x w w' s := rfl
theorem scale3 : k0_pay48 (k0_pay46 x w s x w' s) k0_pay47 = tScale x w w' s := rfl
theorem scale4 : k0_pay56 (k0_pay54 x w s x w' s) (k0_pay55 x w s x w' s) = tScale x w w' s := rfl
theorem scale5 : k0_pay61 x (k0_pay59 w) s x w' s = tScale x w w' s := rfl

/-! The codes of tiles 1 to 5. -/

theorem codes1 : k0_pay36 (k0_pay35 x (k0_pay32 w) s x w' s) (Scalar.ofBits .f32 0xC3E00000#32) = tCodes x w w' s := rfl
theorem codes2 : k0_pay42 (k0_pay38 x w s) x (k0_pay39 w') (constant S256x512 .f32 0x00000000#32) s = tCodes x w w' s := rfl
theorem codes3 : k0_pay49 (k0_pay45 x w s x w' s) (k0_pay46 x w s x w' s) k0_pay47 = tCodes x w w' s := rfl
theorem codes4 : k0_pay57 (k0_pay52 x w s x w' s) (k0_pay54 x w s x w' s) (k0_pay55 x w s x w' s) = tCodes x w w' s := rfl
theorem codes5 : k0_pay1 (k0_pay62 x (k0_pay59 w) s x w' s) (Scalar.ofBits .f32 0xC3E00000#32) = tCodes x w w' s := rfl

/-! The running product's rows of tiles 1 to 5. -/

theorem acc1 : k0_pay37 (k0_pay34 x (k0_pay32 w) s x w' s) (k0_pay35 x (k0_pay32 w) s x w' s)
    (Scalar.ofBits .f32 0xC3E00000#32) a d = tAcc x w w' s a d := rfl
theorem acc2 : k0_pay44 (k0_pay43 (k0_pay38 x w s) x (k0_pay39 w') (constant S256x512 .f32 0x00000000#32) s) a d
    = tAcc x w w' s a d := rfl
theorem acc3 : k0_pay51 a (k0_pay50 (k0_pay45 x w s x w' s) (k0_pay46 x w s x w' s) k0_pay47 d) = tAcc x w w' s a d := rfl
theorem acc4 : k0_pay58 (k0_pay52 x w s x w' s) (k0_pay54 x w s x w' s) (k0_pay55 x w s x w' s) a d
    = tAcc x w w' s a d := rfl
theorem acc5 : k0_pay2 (k0_pay61 x (k0_pay59 w) s x w' s) (k0_pay62 x (k0_pay59 w) s x w' s)
    (Scalar.ofBits .f32 0xC3E00000#32) a d = tAcc x w w' s a d := rfl

/-! The tile's values at an index. -/

/-- An activation is the gated product of a row and two columns. -/
theorem tAct_apply (r : Fin 256) (c : Fin 512) : tAct x w w' s (ix2 r c)
    = act1 (fun k => x (ix2 r k)) (fun k => w (ix3 0 k c)) (fun k => w' (ix3 0 k c)) s := by
  pointwise [tAct, k0_pay25, act1]

/-- A scale is the kernel's scale of 32 neighbouring activations. -/
theorem tScale_apply (b : Fin 16) (r : Fin 256) : tScale x w w' s (ix2 b r)
    = Ideal.exp2 (rExp fun k : Fin 32 => tAct x w w' s (ix2 r ⟨b.val * 32 + k.val, by omega⟩)) := by
  rw [← kScale_eq (by norm_num)]
  unfold tScale tAct
  pointwise [k0_pay29, k0_pay28, k0_pay27, k0_pay26]
  rfl

/-- A code is the clipped quotient of the activation by its block's scale. -/
theorem tCodes_apply (r : Fin 256) (c : Fin 512) : tCodes x w w' s (ix2 r c)
    = clip (tAct x w w' s (ix2 r c)
        * Ideal.exp2 (0 - rExp fun k : Fin 32 => tAct x w w' s (ix2 r ⟨c.val / 32 * 32 + k.val, by omega⟩))) := by
  rw [← div_kScale (by norm_num)]
  unfold tCodes tAct
  pointwise [k0_pay30, k0_pay29, k0_pay28, k0_pay27, k0_pay26]
  rfl

/-- One hidden block added to the running product: the sum over its columns of code times scale times weight. -/
theorem tAcc_apply (r : Fin 256) (c : Fin 2048) : tAcc x w w' s a d (ix2 r c)
    = a (ix2 r c) + ∑ k : Fin 512, tCodes x w w' s (ix2 r k)
        * tScale x w w' s (ix2 ⟨k.val / 32, by omega⟩ r) * d (ix2 k c) := by
  unfold tAcc tCodes tScale
  pointwise [k0_pay31]

end Cert.FfIdeal.Tile

end
-- ==== Proof.FfBlocks.lean ====
module
public import proofs.«01_k».proof.Proof.FfTile
public import proofs.«01_k».proof.Proof.Gen.FfIdeal.Value

/-! What the kernel's two quantised results hold after the run, entry by entry. -/

@[expose] public section

noncomputable section

set_option maxRecDepth 16384

namespace Cert.FfIdeal.Blocks

open Idealize.ShloMosaic Cert.Quant Cert.FfMath Cert.FfIdeal Cert.FfIdeal.Gen Cert.FfIdeal.Tile
open Idealize.ShloMosaic.TcCoe

variable (m : (ℓ : Loc nD τ sig) → Buf (Elt Ideal) ℓ) (c : Dev nD)

/-- Where the windows of point `t` lie. -/
theorem idx : ∀ t : Fin cfg0.N, win0_0.index t = ![0] ∧ win0_1.index t = ![0, 0] ∧ win0_2.index t = ![0, 0, t.val]
    ∧ win0_3.index t = ![t.val, 0] ∧ win0_4.index t = ![0, 0] ∧ win0_5.index t = ![0, t.val] ∧ win0_6.index t = ![t.val, 0] := by
  decide +kernel

/-- The block of 32 that hidden column `512 t + k` lies in. -/
theorem block_of {t : ℕ} (ht : t < 16) (k : Fin 512) : (⟨t * 16 + (⟨k.val / 32, by omega⟩ : Fin 16).val, by omega⟩ : Fin 256)
    = ⟨(⟨t * 512 + k.val, by omega⟩ : Fin 8192).val / 32, by omega⟩ := Fin.ext (by simp only []; omega)

section closed
variable (hw : S1536x2048.Idx → EReal) (wff : S2x2048x8192.Idx → EReal) (wsc : S2.Idx → EReal)
variable {x : Vec Ideal S256x2048 .bf16} {w w' : Vec Ideal S1x2048x512 .fp8e4m3} {s : Elt Ideal .f32}
  {o t : ℕ} (ho : o + 256 ≤ 1536) (ht : t < 16)
  (hx : ∀ (r : Fin 256) q, x (ix2 r q) = hw (ix2 ⟨o + r.val, by omega⟩ q))
  (hg : ∀ q (j : Fin 512), w (ix3 0 q j) = wff (ix3 0 q ⟨t * 512 + j.val, by omega⟩))
  (hu : ∀ q (j : Fin 512), w' (ix3 0 q j) = wff (ix3 1 q ⟨t * 512 + j.val, by omega⟩)) (hs : s = wsc (ix1 0))
include hx hg hu hs

/-- The tile at rows `o` on and hidden columns `512 t` on holds those activations. -/
theorem act_of (r : Fin 256) (j : Fin 512) : tAct x w w' s (ix2 r j)
    = act hw wff wsc ⟨o + r.val, by omega⟩ ⟨t * 512 + j.val, by omega⟩ := by
  rw [tAct_apply]
  simp only [hx, hg, hu, hs]
  rfl

theorem exp_of (b : Fin 16) (r : Fin 256) :
    (rExp fun k : Fin 32 => tAct x w w' s (ix2 r ⟨b.val * 32 + k.val, by omega⟩))
      = expo hw wff wsc ⟨t * 16 + b.val, by omega⟩ ⟨o + r.val, by omega⟩ := by
  rw [expo]
  congr 1
  funext k
  rw [act_of hw wff wsc ho ht hx hg hu hs, group]
  congr 1
  exact Fin.ext (by simp only []; omega)

/-- The tile's scales are the closed form's. -/
theorem scales_of (b : Fin 16) (r : Fin 256) : tScale x w w' s (ix2 b r)
    = scales hw wff wsc ⟨t * 16 + b.val, by omega⟩ ⟨o + r.val, by omega⟩ := by
  rw [tScale_apply, exp_of hw wff wsc ho ht hx hg hu hs, scales]

/-- The tile's codes are the closed form's. -/
theorem codes_of (r : Fin 256) (j : Fin 512) : tCodes x w w' s (ix2 r j)
    = codes hw wff wsc ⟨o + r.val, by omega⟩ ⟨t * 512 + j.val, by omega⟩ := by
  rw [tCodes_apply, exp_of hw wff wsc ho ht hx hg hu hs ⟨j.val / 32, by omega⟩, act_of hw wff wsc ho ht hx hg hu hs, codes]
  congr 5
  exact Fin.ext (by simp only []; omega)

/-- A tile of the running product at rows `o` on: what was there and the sum over the hidden columns `512 t` on. -/
theorem acc_of (wd : S8192x2048.Idx → EReal) {a : Vec Ideal S256x2048 .f32} {d : Vec Ideal S512x2048 .fp8e4m3} {A : EReal}
    (hd : ∀ (k : Fin 512) q, d (ix2 k q) = wd (ix2 ⟨t * 512 + k.val, by omega⟩ q))
    {r : Fin 256} {q : Fin 2048} (ha : a (ix2 r q) = A) :
    tAcc x w w' s a d (ix2 r q) = A + ∑ k : Fin 512, wide hw wff wsc ⟨o + r.val, by omega⟩ ⟨t * 512 + k.val, by omega⟩
      * wd (ix2 ⟨t * 512 + k.val, by omega⟩ q) := by
  rw [tAcc_apply, ha]
  congr 1
  refine Finset.sum_congr rfl fun k _ => ?_
  have hc := codes_of hw wff wsc ho ht hx hg hu hs r k
  have hk := (scales_of hw wff wsc ho ht hx hg hu hs ⟨k.val / 32, by omega⟩ r).trans (congrArg (scales hw wff wsc · _) (block_of ht k))
  rw [hd, wide, hc, hk]

end closed

/-- The tokens' block. -/
theorem hw_blk (t : Fin cfg0.N) (r : Fin 1536) (q : Fin 2048) :
    iblk m c 1 t (ix2 r q) = m ((c : Thread nD τ).loc main_arg0) (ix2 r q) := by
  blk_ext [iblk, V, idx t]

theorem lt16 (t : Fin cfg0.N) : t.val < 16 := t.isLt

/-- The gate and up weights' block. -/
theorem wff_blk (t : Fin cfg0.N) (a : Fin 2) (q : Fin 2048) (j : Fin 512) :
    iblk m c 2 t (ix3 a q j) = m ((c : Thread nD τ).loc main_arg1) (ix3 a q ⟨t.val * 512 + j.val, by have := lt16 t; omega⟩) := by
  blk_ext [iblk, V, idx t]

/-- The factors' block. -/
theorem wsc_blk (t : Fin cfg0.N) (a : Fin 2) :
    iblk m c 0 t (ix1 a) = m ((c : Thread nD τ).loc main_arg3) (ix1 a) := by
  blk_ext [iblk, V, idx t]

/-- The first factor, as loaded. -/
theorem wsc_ld (t : Fin cfg0.N) (i : (⟨1, ![1]⟩ : Shape).Idx) :
    View.ld (iblk m c 0 t) (Rect.unit ![0] ![1] inb_S2_S1_0) i = m ((c : Thread nD τ).loc main_arg3) (ix1 0) := by
  pointwise
  exact wsc_blk m c t 0

/-- The gate weights, as loaded. -/
theorem gate_ld (t : Fin cfg0.N) (q : Fin 2048) (j : Fin 512) :
    View.ld (iblk m c 2 t) (Rect.unit ![0, 0, 0] ![1, 2048, 512] inb_S2x2048x512_S1x2048x512_0_0_0) (ix3 0 q j)
      = m ((c : Thread nD τ).loc main_arg1) (ix3 0 q ⟨t.val * 512 + j.val, by have := lt16 t; omega⟩) := by
  pointwise
  exact wff_blk m c t 0 q j

/-- The up weights, as loaded. -/
theorem up_ld (t : Fin cfg0.N) (q : Fin 2048) (j : Fin 512) :
    View.ld (iblk m c 2 t) (Rect.unit ![1, 0, 0] ![1, 2048, 512] inb_S2x2048x512_S1x2048x512_1_0_0) (ix3 0 q j)
      = m ((c : Thread nD τ).loc main_arg1) (ix3 1 q ⟨t.val * 512 + j.val, by have := lt16 t; omega⟩) := by
  pointwise
  exact wff_blk m c t 1 q j

/-- A tile's token rows, as loaded. -/
theorem hw_ld (t : Fin cfg0.N) {o : ℕ} (ho : o + 256 ≤ 1536) (h) (r : Fin 256) (q : Fin 2048) :
    View.ld (iblk m c 1 t) (Rect.unit ![o, 0] ![256, 2048] h) (ix2 r q)
      = m ((c : Thread nD τ).loc main_arg0) (ix2 ⟨o + r.val, by omega⟩ q) := by
  rw [← hw_blk m c t]
  pointwise

/-- The scales of a point's tile at rows `o` on. -/
theorem scales_piece (t : Fin cfg0.N) {o : ℕ} (ho : o + 256 ≤ 1536) (h) (i : (⟨1, ![1]⟩ : Shape).Idx) (x : S16x256.Idx)
    (b : Fin 16) (r : Fin 1536) (h0 : b.val = (x 0).val) (h1 : r.val = o + (x 1).val) :
    tScale (View.ld (iblk m c 1 t) (Rect.unit ![o, 0] ![256, 2048] h))
      (View.ld (iblk m c 2 t) (Rect.unit ![0, 0, 0] ![1, 2048, 512] inb_S2x2048x512_S1x2048x512_0_0_0))
      (View.ld (iblk m c 2 t) (Rect.unit ![1, 0, 0] ![1, 2048, 512] inb_S2x2048x512_S1x2048x512_1_0_0))
      (View.ld (iblk m c 0 t) (Rect.unit ![0] ![1] inb_S2_S1_0) i) x
    = scales (m ((c : Thread nD τ).loc main_arg0)) (m ((c : Thread nD τ).loc main_arg1)) (m ((c : Thread nD τ).loc main_arg3))
        ⟨t.val * 16 + b.val, by have := lt16 t; omega⟩ r := by
  obtain ⟨b', r', rfl⟩ : ∃ (b' : Fin 16) (r' : Fin 256), x = ix2 b' r' := ⟨x 0, x 1, eq_ix2 x⟩
  obtain rfl : b = b' := Fin.ext h0
  obtain rfl : r = ⟨o + r'.val, (Nat.add_lt_add_left r'.isLt o).trans_le ho⟩ := Fin.ext h1
  exact scales_of _ _ _ ho (lt16 t) (hw_ld m c t ho h) (gate_ld m c t) (up_ld m c t) (wsc_ld m c t i) b r'

/-- The codes of a point's tile at rows `o` on. -/
theorem codes_piece (t : Fin cfg0.N) {o : ℕ} (ho : o + 256 ≤ 1536) (h) (i : (⟨1, ![1]⟩ : Shape).Idx) (x : S256x512.Idx)
    (r : Fin 1536) (j : Fin 512) (h0 : r.val = o + (x 0).val) (h1 : j.val = (x 1).val) :
    tCodes (View.ld (iblk m c 1 t) (Rect.unit ![o, 0] ![256, 2048] h))
      (View.ld (iblk m c 2 t) (Rect.unit ![0, 0, 0] ![1, 2048, 512] inb_S2x2048x512_S1x2048x512_0_0_0))
      (View.ld (iblk m c 2 t) (Rect.unit ![1, 0, 0] ![1, 2048, 512] inb_S2x2048x512_S1x2048x512_1_0_0))
      (View.ld (iblk m c 0 t) (Rect.unit ![0] ![1] inb_S2_S1_0) i) x
    = codes (m ((c : Thread nD τ).loc main_arg0)) (m ((c : Thread nD τ).loc main_arg1)) (m ((c : Thread nD τ).loc main_arg3))
        r ⟨t.val * 512 + j.val, by have := lt16 t; omega⟩ := by
  obtain ⟨r', j', rfl⟩ : ∃ (r' : Fin 256) (j' : Fin 512), x = ix2 r' j' := ⟨x 0, x 1, eq_ix2 x⟩
  obtain rfl : j = j' := Fin.ext h1
  obtain rfl : r = ⟨o + r'.val, (Nat.add_lt_add_left r'.isLt o).trans_le ho⟩ := Fin.ext h0
  exact codes_of _ _ _ ho (lt16 t) (hw_ld m c t ho h) (gate_ld m c t) (up_ld m c t) (wsc_ld m c t i) r' j

/-- The scales that the first grid point stores. -/
theorem scales_A (t : Fin cfg0.N) (h0 : t.val % 16 = 0) (h1 : ¬t.val % 16 = 15) (b : Fin 16) (r : Fin 1536) :
    (outsAt0 m c t.val t.isLt).2.1 (ix2 b r)
      = scales (m ((c : Thread nD τ).loc main_arg0)) (m ((c : Thread nD τ).loc main_arg1)) (m ((c : Thread nD τ).loc main_arg3))
        ⟨t.val * 16 + b.val, by have := lt16 t; omega⟩ r := by
  rw [outsAt0_A m c t h0 h1]
  frame_out
  canon_tiles x h
  · rw [scale5]; exact scales_piece m c t (by norm_num) _ _ x b r h0 h1
  · rw [scale4]; exact scales_piece m c t (by norm_num) _ _ x b r h0 h1
  · rw [scale3]; exact scales_piece m c t (by norm_num) _ _ x b r h0 h1
  · rw [scale2]; exact scales_piece m c t (by norm_num) _ _ x b r h0 h1
  · rw [scale1]; exact scales_piece m c t (by norm_num) _ _ x b r h0 h1
  · exact scales_piece m c t (by norm_num) _ _ x b r h0 (h1.trans (Nat.zero_add _).symm)

/-- The scales that a middle grid point stores. -/
theorem scales_B (t : Fin cfg0.N) (h0 : ¬t.val % 16 = 0) (h1 : ¬t.val % 16 = 15) (b : Fin 16) (r : Fin 1536) :
    (outsAt0 m c t.val t.isLt).2.1 (ix2 b r)
      = scales (m ((c : Thread nD τ).loc main_arg0)) (m ((c : Thread nD τ).loc main_arg1)) (m ((c : Thread nD τ).loc main_arg3))
        ⟨t.val * 16 + b.val, by have := lt16 t; omega⟩ r := by
  rw [outsAt0_B m c t h0 h1]
  frame_out
  canon_tiles x h
  · rw [scale5]; exact scales_piece m c t (by norm_num) _ _ x b r h0 h1
  · rw [scale4]; exact scales_piece m c t (by norm_num) _ _ x b r h0 h1
  · rw [scale3]; exact scales_piece m c t (by norm_num) _ _ x b r h0 h1
  · rw [scale2]; exact scales_piece m c t (by norm_num) _ _ x b r h0 h1
  · rw [scale1]; exact scales_piece m c t (by norm_num) _ _ x b r h0 h1
  · exact scales_piece m c t (by norm_num) _ _ x b r h0 (h1.trans (Nat.zero_add _).symm)

/-- The scales that the last grid point stores. -/
theorem scales_C (t : Fin cfg0.N) (h0 : ¬t.val % 16 = 0) (h1 : t.val % 16 = 15) (b : Fin 16) (r : Fin 1536) :
    (outsAt0 m c t.val t.isLt).2.1 (ix2 b r)
      = scales (m ((c : Thread nD τ).loc main_arg0)) (m ((c : Thread nD τ).loc main_arg1)) (m ((c : Thread nD τ).loc main_arg3))
        ⟨t.val * 16 + b.val, by have := lt16 t; omega⟩ r := by
  rw [outsAt0_C m c t h0 h1]
  frame_out
  canon_tiles x h
  · rw [scale5]; exact scales_piece m c t (by norm_num) _ _ x b r h0 h1
  · rw [scale4]; exact scales_piece m c t (by norm_num) _ _ x b r h0 h1
  · rw [scale3]; exact scales_piece m c t (by norm_num) _ _ x b r h0 h1
  · rw [scale2]; exact scales_piece m c t (by norm_num) _ _ x b r h0 h1
  · rw [scale1]; exact scales_piece m c t (by norm_num) _ _ x b r h0 h1
  · exact scales_piece m c t (by norm_num) _ _ x b r h0 (h1.trans (Nat.zero_add _).symm)

/-- The codes that the first grid point stores. -/
theorem codes_A (t : Fin cfg0.N) (h0 : t.val % 16 = 0) (h1 : ¬t.val % 16 = 15) (r : Fin 1536) (j : Fin 512) :
    (outsAt0 m c t.val t.isLt).1 (ix2 r j)
      = codes (m ((c : Thread nD τ).loc main_arg0)) (m ((c : Thread nD τ).loc main_arg1)) (m ((c : Thread nD τ).loc main_arg3))
        r ⟨t.val * 512 + j.val, by have := lt16 t; omega⟩ := by
  rw [outsAt0_A m c t h0 h1]
  frame_out
  canon_tiles x h
  · rw [codes5]; exact codes_piece m c t (by norm_num) _ _ x r j h0 h1
  · rw [codes4]; exact codes_piece m c t (by norm_num) _ _ x r j h0 h1
  · rw [codes3]; exact codes_piece m c t (by norm_num) _ _ x r j h0 h1
  · rw [codes2]; exact codes_piece m c t (by norm_num) _ _ x r j h0 h1
  · rw [codes1]; exact codes_piece m c t (by norm_num) _ _ x r j h0 h1
  · exact codes_piece m c t (by norm_num) _ _ x r j (h0.trans (Nat.zero_add _).symm) h1

/-- The codes that a middle grid point stores. -/
theorem codes_B (t : Fin cfg0.N) (h0 : ¬t.val % 16 = 0) (h1 : ¬t.val % 16 = 15) (r : Fin 1536) (j : Fin 512) :
    (outsAt0 m c t.val t.isLt).1 (ix2 r j)
      = codes (m ((c : Thread nD τ).loc main_arg0)) (m ((c : Thread nD τ).loc main_arg1)) (m ((c : Thread nD τ).loc main_arg3))
        r ⟨t.val * 512 + j.val, by have := lt16 t; omega⟩ := by
  rw [outsAt0_B m c t h0 h1]
  frame_out
  canon_tiles x h
  · rw [codes5]; exact codes_piece m c t (by norm_num) _ _ x r j h0 h1
  · rw [codes4]; exact codes_piece m c t (by norm_num) _ _ x r j h0 h1
  · rw [codes3]; exact codes_piece m c t (by norm_num) _ _ x r j h0 h1
  · rw [codes2]; exact codes_piece m c t (by norm_num) _ _ x r j h0 h1
  · rw [codes1]; exact codes_piece m c t (by norm_num) _ _ x r j h0 h1
  · exact codes_piece m c t (by norm_num) _ _ x r j (h0.trans (Nat.zero_add _).symm) h1

/-- The codes that the last grid point stores. -/
theorem codes_C (t : Fin cfg0.N) (h0 : ¬t.val % 16 = 0) (h1 : t.val % 16 = 15) (r : Fin 1536) (j : Fin 512) :
    (outsAt0 m c t.val t.isLt).1 (ix2 r j)
      = codes (m ((c : Thread nD τ).loc main_arg0)) (m ((c : Thread nD τ).loc main_arg1)) (m ((c : Thread nD τ).loc main_arg3))
        r ⟨t.val * 512 + j.val, by have := lt16 t; omega⟩ := by
  rw [outsAt0_C m c t h0 h1]
  frame_out
  canon_tiles x h
  · rw [codes5]; exact codes_piece m c t (by norm_num) _ _ x r j h0 h1
  · rw [codes4]; exact codes_piece m c t (by norm_num) _ _ x r j h0 h1
  · rw [codes3]; exact codes_piece m c t (by norm_num) _ _ x r j h0 h1
  · rw [codes2]; exact codes_piece m c t (by norm_num) _ _ x r j h0 h1
  · rw [codes1]; exact codes_piece m c t (by norm_num) _ _ x r j h0 h1
  · exact codes_piece m c t (by norm_num) _ _ x r j (h0.trans (Nat.zero_add _).symm) h1

/-- The scales that a grid point stores. -/
theorem scales_at (t : Fin cfg0.N) (b : Fin 16) (r : Fin 1536) : (dats m 0 c).after 6 t (ix2 b r)
    = scales (m ((c : Thread nD τ).loc main_arg0)) (m ((c : Thread nD τ).loc main_arg1)) (m ((c : Thread nD τ).loc main_arg3))
        ⟨t.val * 16 + b.val, by have := lt16 t; omega⟩ r := by
  rw [after0_6]
  by_cases h0 : t.val % 16 = 0
  · exact scales_A m c t h0 (by omega) b r
  · by_cases h1 : t.val % 16 = 15
    · exact scales_C m c t h0 h1 b r
    · exact scales_B m c t h0 h1 b r

/-- The codes that a grid point stores. -/
theorem codes_at (t : Fin cfg0.N) (r : Fin 1536) (j : Fin 512) : (dats m 0 c).after 5 t (ix2 r j)
    = codes (m ((c : Thread nD τ).loc main_arg0)) (m ((c : Thread nD τ).loc main_arg1)) (m ((c : Thread nD τ).loc main_arg3))
        r ⟨t.val * 512 + j.val, by have := lt16 t; omega⟩ := by
  rw [after0_5]
  by_cases h0 : t.val % 16 = 0
  · exact codes_A m c t h0 (by omega) r j
  · by_cases h1 : t.val % 16 = 15
    · exact codes_C m c t h0 h1 r j
    · exact codes_B m c t h0 h1 r j

/-- Where a point's codes go. -/
theorem emb5 (t : Fin cfg0.N) (r : Fin 1536) (j : Fin 512) :
    (win0_5.blk t).view.emb (ix2 r j) = ix2 r ⟨t.val * 512 + j.val, by have := lt16 t; omega⟩ := by
  blk_ext [idx t]

/-- Where a point's scales go. -/
theorem emb6 (t : Fin cfg0.N) (b : Fin 16) (r : Fin 1536) :
    (win0_6.blk t).view.emb (ix2 b r) = ix2 ⟨t.val * 16 + b.val, by have := lt16 t; omega⟩ r := by
  blk_ext [idx t]

theorem covers5 : (cfg0.win 5).Covers := by decide +kernel

theorem covers6 : (cfg0.win 6).Covers := by decide +kernel

/-- The codes after the run are the closed form's. -/
theorem codes_eq : (dats m 0 c).arrAt 5 cfg0.N = fun i => codes (m ((c : Thread nD τ).loc main_arg0))
    (m ((c : Thread nD τ).loc main_arg1)) (m ((c : Thread nD τ).loc main_arg3)) (i 0) (i 1) := by
  refine (dats m 0 c).arrAt_eq_of_covers 5 _ covers5 fun t hf y => ?_
  blk_simp
  change S1536x512.Idx at y
  obtain ⟨r, j, rfl⟩ : ∃ r j, y = ix2 r j := ⟨y 0, y 1, eq_ix2 y⟩
  rw [emb5]
  exact codes_at m c t r j

/-- The scales after the run are the closed form's. -/
theorem scales_eq : (dats m 0 c).arrAt 6 cfg0.N = fun i => scales (m ((c : Thread nD τ).loc main_arg0))
    (m ((c : Thread nD τ).loc main_arg1)) (m ((c : Thread nD τ).loc main_arg3)) (i 0) (i 1) := by
  refine (dats m 0 c).arrAt_eq_of_covers 6 _ covers6 fun t hf y => ?_
  blk_simp
  change S16x1536.Idx at y
  obtain ⟨b, r, rfl⟩ : ∃ b r, y = ix2 b r := ⟨y 0, y 1, eq_ix2 y⟩
  rw [emb6]
  exact scales_at m c t b r

/-- The down weights' block. -/
theorem wd_blk (t : Fin cfg0.N) (k : Fin 512) (q : Fin 2048) :
    iblk m c 3 t (ix2 k q) = m ((c : Thread nD τ).loc main_arg2) (ix2 ⟨t.val * 512 + k.val, by have := lt16 t; omega⟩ q) := by
  blk_ext [iblk, V, idx t]

/-- What grid point `t` adds to the running product at token `r` and column `q`. -/
def part (t : Fin cfg0.N) (r : Fin 1536) (q : Fin 2048) : EReal :=
  ∑ k : Fin 512, wide (m ((c : Thread nD τ).loc main_arg0)) (m ((c : Thread nD τ).loc main_arg1)) (m ((c : Thread nD τ).loc main_arg3))
      r ⟨t.val * 512 + k.val, by have := lt16 t; omega⟩
    * m ((c : Thread nD τ).loc main_arg2) (ix2 ⟨t.val * 512 + k.val, by have := lt16 t; omega⟩ q)

/-- A tile of the running product at rows `o` on: what was there and the point's part. -/
theorem acc_piece (t : Fin cfg0.N) {o : ℕ} (ho : o + 256 ≤ 1536) (h) (i : (⟨1, ![1]⟩ : Shape).Idx) (a : Vec Ideal S256x2048 .f32)
    (A : EReal) (x : S256x2048.Idx) (r : Fin 1536) (q : Fin 2048) (h0 : r.val = o + (x 0).val) (h1 : q.val = (x 1).val) (ha : a x = A) :
    tAcc (View.ld (iblk m c 1 t) (Rect.unit ![o, 0] ![256, 2048] h))
      (View.ld (iblk m c 2 t) (Rect.unit ![0, 0, 0] ![1, 2048, 512] inb_S2x2048x512_S1x2048x512_0_0_0))
      (View.ld (iblk m c 2 t) (Rect.unit ![1, 0, 0] ![1, 2048, 512] inb_S2x2048x512_S1x2048x512_1_0_0))
      (View.ld (iblk m c 0 t) (Rect.unit ![0] ![1] inb_S2_S1_0) i) a (iblk m c 3 t) x
    = A + part m c t r q := by
  obtain ⟨r', q', rfl⟩ : ∃ (r' : Fin 256) (q' : Fin 2048), x = ix2 r' q' := ⟨x 0, x 1, eq_ix2 x⟩
  obtain rfl : q = q' := Fin.ext h1
  obtain rfl : r = ⟨o + r'.val, (Nat.add_lt_add_left r'.isLt o).trans_le ho⟩ := Fin.ext h0
  exact acc_of (m ((c : Thread nD τ).loc main_arg0)) (m ((c : Thread nD τ).loc main_arg1)) (m ((c : Thread nD τ).loc main_arg3))
    ho (lt16 t) (hw_ld m c t ho h) (gate_ld m c t) (up_ld m c t) (wsc_ld m c t i) (m ((c : Thread nD τ).loc main_arg2))
    (wd_blk m c t) ha

end Cert.FfIdeal.Blocks

end
-- ==== Proof.FfRefValue.lean ====
module
public import proofs.«01_k».proof.Proof.FfMath
public import proofs.«01_k».proof.Proof.Gen.FfRefIdeal.Value
public import Idealize.ShloMosaic.Lib.Pipeline.ReadBack

/-! What the reference's four results hold, entry by entry. -/

@[expose] public section

noncomputable section

set_option maxRecDepth 16384

namespace Cert.FfRefIdeal.RefValue

open Idealize.ShloMosaic Cert.Quant Cert.FfMath Cert.FfRefIdeal Cert.FfRefIdeal.Gen
open Idealize.ShloMosaic.TcCoe

section payloads
variable (x : Vec Ideal S1536x2048 .bf16) (w w' : Vec Ideal S1x2048x8192 .fp8e4m3) (s : Elt Ideal .f32)

/-- The reference's activations by hidden block, place in the block, token. -/
theorem pay2_apply (b : Fin 256) (k : Fin 32) (r : Fin 1536) : k0_pay2 x w s w' s (ix3 b k r)
    = act1 (fun q => x (ix2 r q)) (fun q => w (ix3 0 q ⟨b.val * 32 + k.val, by omega⟩))
        (fun q => w' (ix3 0 q ⟨b.val * 32 + k.val, by omega⟩)) s := by
  pointwise [k0_pay2, act1]

/-- The largest magnitude of a block. -/
theorem topMag (v : FVec Ideal S256x32x1536 .f32) (b : Fin 256) (r : Fin 1536) :
    multiReduction .maximumf [1] S256x1536 (absf v) 0xFF800000#32 reduces_S256x32x1536_S256x1536 (.inl rfl) rfl (ix2 b r)
      = top fun k : Fin 32 => mag (v (ix3 b k r)) := by
  pointwise
  rfl

/-- The block exponent from the largest magnitude. -/
theorem expOf (v : FVec Ideal S256x1536 .f32) (y : S256x1536.Idx) :
    select (cmpf .oeq v (broadcast S256x1536 (Scalar.ofBits .f32 0x00000000#32)))
      (broadcast S256x1536 (Scalar.ofBits .f32 0x00000000#32))
      (addf (floor (mulf (log (mulf v (broadcast S256x1536 (Scalar.ofBits .f32 0x3B124925#32))))
        (broadcast S256x1536 (Named.named κ "log2e" 0x3FB8AA3B#32)))) (broadcast S256x1536 (Scalar.ofBits .f32 0x3F800000#32))) y
      = if v y = 0 then 0 else ex (v y) + 1 := by
  pointwise
  rfl

/-- The reference's block exponent. -/
theorem pay3_apply (b : Fin 256) (r : Fin 1536) : k0_pay3 x w s w' s (ix2 b r)
    = rExp fun k : Fin 32 => k0_pay2 x w s w' s (ix3 b k r) := by
  rw [rExp, ← topMag]
  exact expOf _ (ix2 b r)

/-- The reference's block scale. -/
theorem pay4_apply (b : Fin 256) (r : Fin 1536) : k0_pay4 x w s w' s (ix2 b r)
    = Ideal.exp2 (k0_pay3 x w s w' s (ix2 b r)) := by
  unfold k0_pay4
  generalize k0_pay3 x w s w' s = e
  as_aux_lemma => rfl

/-- An activation times the inverse scale. -/
theorem pay5_apply (b : Fin 256) (k : Fin 32) (r : Fin 1536) : k0_pay5 x w s w' s (ix3 b k r)
    = k0_pay2 x w s w' s (ix3 b k r) * Ideal.exp2 (0 - k0_pay3 x w s w' s (ix2 b r)) := by
  unfold k0_pay5
  generalize k0_pay2 x w s w' s = v
  generalize k0_pay3 x w s w' s = e
  as_aux_lemma =>
    pointwise
    rfl

end payloads

/-- The codes as stored: clipped, laid out by token and hidden column. -/
theorem pay7_apply (v : FVec Ideal S256x32x1536 .f32) (r : Fin 1536) (c : Fin 8192) : k0_pay7 v (ix2 r c)
    = clip (v (ix3 ⟨c.val / 32, by omega⟩ ⟨c.val % 32, by omega⟩ r)) := by
  have h : ∀ y, k0_pay6 v y = clip (v y) := fun y => rfl
  unfold k0_pay7
  pointwise
  rw [h]

/-- The scaled down product. -/
theorem pay8_apply (e : FVec Ideal S256x1536 .f32) (v : FVec Ideal S256x32x1536 .f32) (d : Vec Ideal S8192x2048 .fp8e4m3) (s : Elt Ideal .f32)
    (r : Fin 1536) (q : Fin 2048) : k0_pay8 e v d s (ix2 r q)
      = (∑ j : Fin 8192, k0_pay7 v (ix2 r j) * e (ix2 ⟨j.val / 32, by omega⟩ r) * d (ix2 j q)) * s := by
  have h : ∀ j, k0_pay7 v (ix2 r j) = k0_pay6 v (ix3 ⟨j.val / 32, by omega⟩ ⟨j.val % 32, by omega⟩ r) := fun j => by
    rw [pay7_apply]
    rfl
  simp only [h]
  unfold k0_pay8
  generalize k0_pay6 v = z
  pointwise

/-- The scaled down product, as stored. -/
theorem pay9_apply (e : FVec Ideal S256x1536 .f32) (v : FVec Ideal S256x32x1536 .f32) (d : Vec Ideal S8192x2048 .fp8e4m3) (s : Elt Ideal .f32)
    (y : S1536x2048.Idx) : k0_pay9 e v d s y = k0_pay8 e v d s y := by
  unfold k0_pay9
  generalize k0_pay8 e v d s = z
  as_aux_lemma => rfl

/-- The normalised down product. -/
theorem pay10_apply (e : FVec Ideal S256x1536 .f32) (v : FVec Ideal S256x32x1536 .f32) (d : Vec Ideal S8192x2048 .fp8e4m3) (s : Elt Ideal .f32)
    (nw : Vec Ideal S1x2048 .f32) (r : Fin 1536) (q : Fin 2048) : k0_pay10 e v d s nw (ix2 r q)
      = k0_pay8 e v d s (ix2 r q) * rms (fun k => k0_pay8 e v d s (ix2 r k)) * nw (ix2 0 q) := by
  unfold k0_pay10 rms
  generalize k0_pay8 e v d s = z
  pointwise

/-- The residual added. -/
theorem pay1_apply (h z : Vec Ideal S1536x2048 .f32) (y : S1536x2048.Idx) : k0_pay1 h z y = h y + z y := by
  as_aux_lemma => rfl

section closed
variable (hw : S1536x2048.Idx → EReal) (wff : S2x2048x8192.Idx → EReal) (wsc : S2.Idx → EReal)
variable {x : Vec Ideal S1536x2048 .bf16} {w w' : Vec Ideal S1x2048x8192 .fp8e4m3} {s : Elt Ideal .f32}
  (hx : ∀ r q, x (ix2 r q) = hw (ix2 r q)) (hg : ∀ q j, w (ix3 0 q j) = wff (ix3 0 q j))
  (hu : ∀ q j, w' (ix3 0 q j) = wff (ix3 1 q j)) (hs : s = wsc (ix1 0))
include hx hg hu hs

theorem act_of (b : Fin 256) (k : Fin 32) (r : Fin 1536) : k0_pay2 x w s w' s (ix3 b k r) = group hw wff wsc r b k := by
  rw [pay2_apply]
  simp only [hx, hg, hu, hs]
  rfl

theorem exp_of (b : Fin 256) (r : Fin 1536) : k0_pay3 x w s w' s (ix2 b r) = expo hw wff wsc b r := by
  rw [pay3_apply, expo]
  congr 1
  funext k
  exact act_of hw wff wsc hx hg hu hs b k r

theorem scales_of (b : Fin 256) (r : Fin 1536) : k0_pay4 x w s w' s (ix2 b r) = scales hw wff wsc b r := by
  rw [pay4_apply, exp_of hw wff wsc hx hg hu hs, scales]

theorem codes_of (r : Fin 1536) (j : Fin 8192) : k0_pay7 (k0_pay5 x w s w' s) (ix2 r j) = codes hw wff wsc r j := by
  rw [pay7_apply, pay5_apply, exp_of hw wff wsc hx hg hu hs, act_of hw wff wsc hx hg hu hs, codes, group]
  congr 3
  exact Fin.ext (Nat.div_add_mod' _ _)

theorem down_of {wd : S8192x2048.Idx → EReal} {d : Vec Ideal S8192x2048 .fp8e4m3} {s1 : Elt Ideal .f32}
    (hd : ∀ j q, d (ix2 j q) = wd (ix2 j q)) (hs1 : s1 = wsc (ix1 1)) (r : Fin 1536) (q : Fin 2048) :
    k0_pay8 (k0_pay4 x w s w' s) (k0_pay5 x w s w' s) d s1 (ix2 r q) = down hw wff wd wsc r q := by
  rw [pay8_apply, down, prod, hs1]
  congr 1
  refine Finset.sum_congr rfl fun j _ => ?_
  rw [codes_of hw wff wsc hx hg hu hs, scales_of hw wff wsc hx hg hu hs, hd, wide]

theorem out_of {wd : S8192x2048.Idx → EReal} {d : Vec Ideal S8192x2048 .fp8e4m3} {s1 : Elt Ideal .f32}
    {h1 : S1536x2048.Idx → EReal} {n : S1x2048.Idx → EReal} {h : Vec Ideal S1536x2048 .f32} {nw : Vec Ideal S1x2048 .f32}
    (hd : ∀ j q, d (ix2 j q) = wd (ix2 j q)) (hs1 : s1 = wsc (ix1 1)) (hh : ∀ r q, h (ix2 r q) = h1 (ix2 r q))
    (hn : ∀ q, nw (ix2 0 q) = n (ix2 0 q)) (r : Fin 1536) (q : Fin 2048) :
    k0_pay1 h (k0_pay10 (k0_pay4 x w s w' s) (k0_pay5 x w s w' s) d s1 nw) (ix2 r q) = out hw wff wd wsc h1 n r q := by
  rw [pay1_apply, pay10_apply, hh, hn, out]
  simp only [down_of hw wff wsc hx hg hu hs hd hs1]

end closed

variable (m : (ℓ : Loc nD τ sig) → Buf (Elt Ideal) ℓ) (c : Dev nD)

/-- The windows hold whole arrays. -/
theorem idx : ∀ t : Fin cfg0.N, win0_0.index t = ![0] ∧ win0_1.index t = ![0, 0] ∧ win0_2.index t = ![0, 0, 0]
    ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![0, 0] := by
  decide +kernel

theorem idx8 (t : Fin cfg0.N) (y : S1536x8192.Idx) : (win0_8.blk t).view.emb y = y := by
  blk_ext [idx t]

theorem idx9 (t : Fin cfg0.N) (y : S256x1536.Idx) : (win0_9.blk t).view.emb y = y := by
  blk_ext [idx t]

/-- The tokens' block. -/
theorem hw_blk (t : Fin cfg0.N) (r : Fin 1536) (q : Fin 2048) :
    iblk m c 1 t (ix2 r q) = m ((c : Thread nD τ).loc main_arg0) (ix2 r q) := by
  blk_ext [iblk, V, idx t]

/-- The gate and up weights' block. -/
theorem wff_blk (t : Fin cfg0.N) (a : Fin 2) (q : Fin 2048) (j : Fin 8192) :
    iblk m c 2 t (ix3 a q j) = m ((c : Thread nD τ).loc main_arg1) (ix3 a q j) := by
  blk_ext [iblk, V, idx t]

/-- The factors' block. -/
theorem wsc_blk (t : Fin cfg0.N) (a : Fin 2) :
    iblk m c 0 t (ix1 a) = m ((c : Thread nD τ).loc main_arg3) (ix1 a) := by
  blk_ext [iblk, V, idx t]

/-- The first factor, as loaded. -/
theorem wsc_ld (t : Fin cfg0.N) (i : (⟨1, ![1]⟩ : Shape).Idx) :
    View.ld (iblk m c 0 t) (Rect.unit ![0] ![1] inb_S2_S1_0) i = m ((c : Thread nD τ).loc main_arg3) (ix1 0) := by
  pointwise
  exact wsc_blk m c t 0

/-- The gate weights, as loaded. -/
theorem gate_ld (t : Fin cfg0.N) (q : Fin 2048) (j : Fin 8192) :
    View.ld (iblk m c 2 t) (Rect.unit ![0, 0, 0] ![1, 2048, 8192] inb_S2x2048x8192_S1x2048x8192_0_0_0) (ix3 0 q j)
      = m ((c : Thread nD τ).loc main_arg1) (ix3 0 q j) := by
  pointwise
  exact wff_blk m c t 0 q j

/-- The up weights, as loaded. -/
theorem up_ld (t : Fin cfg0.N) (q : Fin 2048) (j : Fin 8192) :
    View.ld (iblk m c 2 t) (Rect.unit ![1, 0, 0] ![1, 2048, 8192] inb_S2x2048x8192_S1x2048x8192_1_0_0) (ix3 0 q j)
      = m ((c : Thread nD τ).loc main_arg1) (ix3 1 q j) := by
  pointwise
  exact wff_blk m c t 1 q j

theorem idx6 (t : Fin cfg0.N) (y : S1536x2048.Idx) : (win0_6.blk t).view.emb y = y := by
  blk_ext [idx t]

theorem idx7 (t : Fin cfg0.N) (y : S1536x2048.Idx) : (win0_7.blk t).view.emb y = y := by
  blk_ext [idx t]

/-- The down weights' block. -/
theorem wd_blk (t : Fin cfg0.N) (j : Fin 8192) (q : Fin 2048) :
    iblk m c 3 t (ix2 j q) = m ((c : Thread nD τ).loc main_arg2) (ix2 j q) := by
  blk_ext [iblk, V, idx t]

/-- The residual's block. -/
theorem h1_blk (t : Fin cfg0.N) (r : Fin 1536) (q : Fin 2048) :
    iblk m c 4 t (ix2 r q) = m ((c : Thread nD τ).loc main_arg4) (ix2 r q) := by
  blk_ext [iblk, V, idx t]

/-- The norm weights' block. -/
theorem nw_blk (t : Fin cfg0.N) (q : Fin 2048) :
    iblk m c 5 t (ix2 0 q) = m ((c : Thread nD τ).loc main_arg5) (ix2 0 q) := by
  blk_ext [iblk, V, idx t]

/-- The second factor, as loaded. -/
theorem wsc1_ld (t : Fin cfg0.N) (i : (⟨1, ![1]⟩ : Shape).Idx) :
    View.ld (iblk m c 0 t) (Rect.unit ![1] ![1] inb_S2_S1_1) i = m ((c : Thread nD τ).loc main_arg3) (ix1 1) := by
  pointwise
  exact wsc_blk m c t 1

/-- The codes that the one grid point stores. -/
theorem codes_blk (t : Fin cfg0.N) (i : (⟨1, ![1]⟩ : Shape).Idx) (y : S1536x8192.Idx) : k0_pay7
      (k0_pay5 (iblk m c 1 t)
        (View.ld (iblk m c 2 t) (Rect.unit ![0, 0, 0] ![1, 2048, 8192] inb_S2x2048x8192_S1x2048x8192_0_0_0))
        (View.ld (iblk m c 0 t) (Rect.unit ![0] ![1] inb_S2_S1_0) i)
        (View.ld (iblk m c 2 t) (Rect.unit ![1, 0, 0] ![1, 2048, 8192] inb_S2x2048x8192_S1x2048x8192_1_0_0))
        (View.ld (iblk m c 0 t) (Rect.unit ![0] ![1] inb_S2_S1_0) i)) y =
    codes (m (c.tc.loc main_arg0)) (m (c.tc.loc main_arg1)) (m (c.tc.loc main_arg3)) (y 0) (y 1) := by
  rw [eq_ix2 y]
  exact codes_of _ _ _ (fun r q => hw_blk m c t r q) (gate_ld m c t) (up_ld m c t) (wsc_ld m c t i) (y 0) (y 1)

/-- The scales that the one grid point stores. -/
theorem scales_blk (t : Fin cfg0.N) (i : (⟨1, ![1]⟩ : Shape).Idx) (y : S256x1536.Idx) : k0_pay4 (iblk m c 1 t)
        (View.ld (iblk m c 2 t) (Rect.unit ![0, 0, 0] ![1, 2048, 8192] inb_S2x2048x8192_S1x2048x8192_0_0_0))
        (View.ld (iblk m c 0 t) (Rect.unit ![0] ![1] inb_S2_S1_0) i)
        (View.ld (iblk m c 2 t) (Rect.unit ![1, 0, 0] ![1, 2048, 8192] inb_S2x2048x8192_S1x2048x8192_1_0_0))
        (View.ld (iblk m c 0 t) (Rect.unit ![0] ![1] inb_S2_S1_0) i) y =
    scales (m (c.tc.loc main_arg0)) (m (c.tc.loc main_arg1)) (m (c.tc.loc main_arg3)) (y 0) (y 1) := by
  rw [eq_ix2 y]
  exact scales_of _ _ _ (fun r q => hw_blk m c t r q) (gate_ld m c t) (up_ld m c t) (wsc_ld m c t i) (y 0) (y 1)

/-- The reference's codes are the closed form's. -/
theorem codes_eq : (dats m 0 c).arrAt 8 cfg0.N = fun i => codes (m ((c : Thread nD τ).loc main_arg0))
    (m ((c : Thread nD τ).loc main_arg1)) (m ((c : Thread nD τ).loc main_arg3)) (i 0) (i 1) := by
  refine (dats m 0 c).arrAt_eq_of_covers 8 _ (by decide +kernel) fun t hf y => ?_
  rw [after0_8]
  frame_out
  blk_simp
  simp only [read_unread_whole]
  change S1536x8192.Idx at y
  rw [idx8]
  exact codes_blk m c t _ y

/-- The scales after the one grid point. -/
theorem scales_after (t : Fin cfg0.N) (y : S256x1536.Idx) : (dats m 0 c).after 9 t y
    = scales (m (c.tc.loc main_arg0)) (m (c.tc.loc main_arg1)) (m (c.tc.loc main_arg3)) (y 0) (y 1) := by
  rw [after0_9]
  frame_out
  simp only [read_unread_whole]
  exact scales_blk m c t _ y

/-- The reference's scales are the closed form's. -/
theorem scales_eq : (dats m 0 c).arrAt 9 cfg0.N = fun i => scales (m ((c : Thread nD τ).loc main_arg0))
    (m ((c : Thread nD τ).loc main_arg1)) (m ((c : Thread nD τ).loc main_arg3)) (i 0) (i 1) := by
  refine (dats m 0 c).arrAt_eq_of_covers 9 _ (by decide +kernel) fun t hf y => ?_
  blk_simp
  change S256x1536.Idx at y
  rw [idx9]
  exact scales_after m c t y

/-- The down product that the one grid point stores. -/
theorem down_blk (t : Fin cfg0.N) (i : (⟨1, ![1]⟩ : Shape).Idx) (y : S1536x2048.Idx) : k0_pay9
      (k0_pay4 (iblk m c 1 t)
        (View.ld (iblk m c 2 t) (Rect.unit ![0, 0, 0] ![1, 2048, 8192] inb_S2x2048x8192_S1x2048x8192_0_0_0))
        (View.ld (iblk m c 0 t) (Rect.unit ![0] ![1] inb_S2_S1_0) i)
        (View.ld (iblk m c 2 t) (Rect.unit ![1, 0, 0] ![1, 2048, 8192] inb_S2x2048x8192_S1x2048x8192_1_0_0))
        (View.ld (iblk m c 0 t) (Rect.unit ![0] ![1] inb_S2_S1_0) i))
      (k0_pay5 (iblk m c 1 t)
        (View.ld (iblk m c 2 t) (Rect.unit ![0, 0, 0] ![1, 2048, 8192] inb_S2x2048x8192_S1x2048x8192_0_0_0))
        (View.ld (iblk m c 0 t) (Rect.unit ![0] ![1] inb_S2_S1_0) i)
        (View.ld (iblk m c 2 t) (Rect.unit ![1, 0, 0] ![1, 2048, 8192] inb_S2x2048x8192_S1x2048x8192_1_0_0))
        (View.ld (iblk m c 0 t) (Rect.unit ![0] ![1] inb_S2_S1_0) i))
      (iblk m c 3 t) (View.ld (iblk m c 0 t) (Rect.unit ![1] ![1] inb_S2_S1_1) i) y =
    down (m (c.tc.loc main_arg0)) (m (c.tc.loc main_arg1)) (m (c.tc.loc main_arg2)) (m (c.tc.loc main_arg3)) (y 0) (y 1) := by
  rw [pay9_apply, eq_ix2 y]
  exact down_of _ _ _ (fun r q => hw_blk m c t r q) (gate_ld m c t) (up_ld m c t) (wsc_ld m c t i)
    (fun j q => wd_blk m c t j q) (wsc1_ld m c t i) (y 0) (y 1)

/-- The output that the one grid point stores. -/
theorem out_blk (t : Fin cfg0.N) (i : (⟨1, ![1]⟩ : Shape).Idx) (y : S1536x2048.Idx) : k0_pay1 (iblk m c 4 t) (k0_pay10
      (k0_pay4 (iblk m c 1 t)
        (View.ld (iblk m c 2 t) (Rect.unit ![0, 0, 0] ![1, 2048, 8192] inb_S2x2048x8192_S1x2048x8192_0_0_0))
        (View.ld (iblk m c 0 t) (Rect.unit ![0] ![1] inb_S2_S1_0) i)
        (View.ld (iblk m c 2 t) (Rect.unit ![1, 0, 0] ![1, 2048, 8192] inb_S2x2048x8192_S1x2048x8192_1_0_0))
        (View.ld (iblk m c 0 t) (Rect.unit ![0] ![1] inb_S2_S1_0) i))
      (k0_pay5 (iblk m c 1 t)
        (View.ld (iblk m c 2 t) (Rect.unit ![0, 0, 0] ![1, 2048, 8192] inb_S2x2048x8192_S1x2048x8192_0_0_0))
        (View.ld (iblk m c 0 t) (Rect.unit ![0] ![1] inb_S2_S1_0) i)
        (View.ld (iblk m c 2 t) (Rect.unit ![1, 0, 0] ![1, 2048, 8192] inb_S2x2048x8192_S1x2048x8192_1_0_0))
        (View.ld (iblk m c 0 t) (Rect.unit ![0] ![1] inb_S2_S1_0) i))
      (iblk m c 3 t) (View.ld (iblk m c 0 t) (Rect.unit ![1] ![1] inb_S2_S1_1) i) (iblk m c 5 t)) y =
    out (m (c.tc.loc main_arg0)) (m (c.tc.loc main_arg1)) (m (c.tc.loc main_arg2)) (m (c.tc.loc main_arg3))
      (m (c.tc.loc main_arg4)) (m (c.tc.loc main_arg5)) (y 0) (y 1) := by
  rw [eq_ix2 y]
  exact out_of _ _ _ (fun r q => hw_blk m c t r q) (gate_ld m c t) (up_ld m c t) (wsc_ld m c t i)
    (fun j q => wd_blk m c t j q) (wsc1_ld m c t i) (fun r q => h1_blk m c t r q) (fun q => nw_blk m c t q) (y 0) (y 1)

/-- The down product after the one grid point. -/
theorem down_after (t : Fin cfg0.N) (y : S1536x2048.Idx) : (dats m 0 c).after 7 t y
    = down (m (c.tc.loc main_arg0)) (m (c.tc.loc main_arg1)) (m (c.tc.loc main_arg2)) (m (c.tc.loc main_arg3)) (y 0) (y 1) := by
  rw [after0_7]
  frame_out
  simp only [read_unread_whole]
  exact down_blk m c t _ y

/-- The output after the one grid point. -/
theorem out_after (t : Fin cfg0.N) (y : S1536x2048.Idx) : (dats m 0 c).after 6 t y
    = out (m (c.tc.loc main_arg0)) (m (c.tc.loc main_arg1)) (m (c.tc.loc main_arg2)) (m (c.tc.loc main_arg3))
      (m (c.tc.loc main_arg4)) (m (c.tc.loc main_arg5)) (y 0) (y 1) := by
  rw [after0_6]
  generalize hG : out (m (c.tc.loc main_arg0)) (m (c.tc.loc main_arg1)) (m (c.tc.loc main_arg2)) (m (c.tc.loc main_arg3))
    (m (c.tc.loc main_arg4)) (m (c.tc.loc main_arg5)) (y 0) (y 1) = G
  unfold outsAt0
  dsimp only
  frame_out
  simp only [read_unread_whole]
  rw [← hG]
  exact out_blk m c t _ y

/-- The reference's down product is the closed form's. -/
theorem down_eq : (dats m 0 c).arrAt 7 cfg0.N = fun i => down (m ((c : Thread nD τ).loc main_arg0))
    (m ((c : Thread nD τ).loc main_arg1)) (m ((c : Thread nD τ).loc main_arg2)) (m ((c : Thread nD τ).loc main_arg3)) (i 0) (i 1) := by
  refine (dats m 0 c).arrAt_eq_of_covers 7 _ (by decide +kernel) fun t hf y => ?_
  blk_simp
  change S1536x2048.Idx at y
  rw [idx7]
  exact down_after m c t y

/-- The reference's output is the closed form's. -/
theorem out_eq : (dats m 0 c).arrAt 6 cfg0.N = fun i => out (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1) := by
  refine (dats m 0 c).arrAt_eq_of_covers 6 _ (by decide +kernel) fun t hf y => ?_
  blk_simp
  change S1536x2048.Idx at y
  rw [idx6]
  exact out_after m c t y

end Cert.FfRefIdeal.RefValue

end
-- ==== Proof.FfRun.lean ====
module

public import proofs.«01_k».proof.Proof.Gen.FfIdeal.Frame.RunC

@[expose] public section

-- membership in a rectangle of production extents (`View.cover_of_tiled`): the elaborator's structural look
-- recurses once per coordinate of the long axes
set_option maxRecDepth 16384

noncomputable section

namespace Cert.FfIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1464000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the HBM operands it copies from whole at their launch contents `fh·`, those it writes back into whole at some contents, its DMA cells at zero and the core's `owes`, the body runs to the continuation holding the inputs' as they were,
    a carried scratch it stored into with its pieces written (`LS·`), the other scratch at some contents, the HBM operands it copies from and the cells as they were, those it writes into at what the copies leave there, `G1` and `G2`, functions of what the copies' scratch and the results held before (each transfer waited for within the point), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_V (c : Dev nD) (i : grid0.Coords) (arg1 : Memref sig .tc .smem S2 .f32) (harg1 : arg1.IsWhole) (arg2 : Memref sig .tc .vmem S1536x2048 .bf16) (harg2 : arg2.IsWhole) (arg3 : Memref sig .tc .vmem S2x2048x512 .fp8e4m3) (harg3 : arg3.IsWhole) (arg4 : Memref sig .tc .vmem S512x2048 .fp8e4m3) (harg4 : arg4.IsWhole) (arg6 : Memref sig .tc .vmem S1x2048 .f32) (harg6 : arg6.IsWhole) (arg9 : Memref sig .tc .vmem S1536x512 .fp8e4m3) (harg9 : arg9.IsWhole) (arg10 : Memref sig .tc .vmem S16x1536 .f32) (harg10 : arg10.IsWhole) (arg11 : Memref sig .tc .vmem S1536x2048 .f32) (harg11 : arg11.IsWhole) (arg12 : Memref sig .tc .vmem S256x2048 .f32) (harg12 : arg12.IsWhole) (arg13 : Memref sig .tc .vmem S256x2048 .bf16) (harg13 : arg13.IsWhole) (arg14 : Memref sig .tc .vmem S256x2048 .bf16) (harg14 : arg14.IsWhole) (hc0 : ¬cond0_0 i) (hc1 : cond0_1 i)
    (x0 : Vec F S2 .f32) (x1 : Vec F S1536x2048 .bf16) (x2 : Vec F S2x2048x512 .fp8e4m3) (x3 : Vec F S512x2048 .fp8e4m3) (x4 : Vec F S1x2048 .f32) (xs0 : Vec F S1536x2048 .f32) (fh0 : HbBuf0 (F := F) c hbM0_0) :
    Σ' (L5 : List (View.Piece (Elt F) S1536x512 .fp8e4m3)), Σ' (L6 : List (View.Piece (Elt F) S16x1536 .f32)), Σ' (LS0 : List (View.Piece (Elt F) S1536x2048 .f32)),
      Σ' (G1 : Buf (Elt F) (arg12.view.loc (c : Thread nD τ)) → Buf (Elt F) (arg13.view.loc (c : Thread nD τ)) → Buf (Elt F) (arg14.view.loc (c : Thread nD τ)) → HbBuf0 (F := F) c hbM0_1 → HbBuf0 (F := F) c hbM0_1),
      { G2 : Buf (Elt F) (arg12.view.loc (c : Thread nD τ)) → Buf (Elt F) (arg13.view.loc (c : Thread nD τ)) → Buf (Elt F) (arg14.view.loc (c : Thread nD τ)) → HbBuf0 (F := F) c hbM0_2 → HbBuf0 (F := F) c hbM0_2 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ f, hbPt0 c hbM0_1 f) ∗ (∃ f, hbPt0 c hbM0_2 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ fs1 fs2 fs3 fw1, hbPt0 c hbM0_1 (G1 fs1 fs2 fs3 fw1)) ∗ (∃ fs1 fs2 fs3 fw2, hbPt0 c hbM0_2 (G2 fs1 fs2 fs3 fw2)) ∗ (∃ W', owes (c : Thread nD τ) 0 W')) -∗ K ⟨⟩))
          ⊢ wp frame (wpE (defs₀ (F := F)) Variants.none c none) Set.univ (cc0_ff i arg1 harg1 arg2 harg2 arg3 harg3 arg4 harg4 (Memref.whole main_arg4) (Memref.isWhole_whole _) arg6 harg6 (Memref.whole main_v0_0) (Memref.isWhole_whole _) (Memref.whole main_v0_1) (Memref.isWhole_whole _) arg9 harg9 arg10 harg10 arg11 harg11 arg12 harg12 arg13 harg13 arg14 harg14 cc0_scratch4) K } := by
  refine ⟨?_, ?_, ?_, ?_, ?_, fun W K => ?run⟩
  case run =>
    simp only [cc0_ff_eq_skeleton]; unfold cc0_ff_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%ds1, %fs1, -, HS1⟩, ⟨%ds2, %fs2, -, HS2⟩, ⟨%ds3, %fs3, -, HS3⟩, Hq0, Hq1, Hq2, Hh0, ⟨%fw1, Hh1⟩, ⟨%fw2, Hh2⟩, HW, Hk⟩
    obtain rfl := harg1.eq_unread hf0; obtain rfl := harg2.eq_unread hf1; obtain rfl := harg3.eq_unread hf2; obtain rfl := harg4.eq_unread hf3; obtain rfl := harg6.eq_unread hf4; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hh0]; · iexact Hh0
    isplitl [Hh1]; · iexists fs1, fs2, fs3, fw1; iexact Hh1
    isplitl [Hh2]; · iexists fs1, fs2, fs3, fw2; iexact Hh2
    iexists _; iexact HW

end Cert.FfIdeal.Gen

end
-- ==== Proof.FfAcc.lean ====
module
public import proofs.«01_k».proof.Proof.FfBlocks
public import proofs.«01_k».proof.Proof.FfRun
public import Idealize.ShloMosaic.Lib.Pipeline.ReadBack

/-! The running product: what the accumulator holds after each grid point. -/

@[expose] public section

noncomputable section

set_option maxRecDepth 16384

namespace Cert.FfIdeal.Acc

open Idealize.ShloMosaic Idealize.ShloMosaic.TcCoe Cert.Quant Cert.FfMath Cert.FfIdeal Cert.FfIdeal.Gen Cert.FfIdeal.Tile Cert.FfIdeal.Blocks

variable (m : (ℓ : Loc nD τ sig) → Buf (Elt Ideal) ℓ) (c : Dev nD)

/-- Rows of a running product read back. -/
theorem ld_rows (a : Vec Ideal S1536x2048 .f32) {o : ℕ} (ho : o + 256 ≤ 1536) (h) (r : Fin 256) (q : Fin 2048) :
    View.ld a (Rect.unit ![o, 0] ![256, 2048] h) (ix2 r q) = a (ix2 ⟨o + r.val, by omega⟩ q) := by
  pointwise

/-- Rows of a running product carried from the point before. -/
theorem carried_rows {f a : Vec Ideal S1536x2048 .f32} {o : ℕ} (ho : o + 256 ≤ 1536) (h) (x : S256x2048.Idx) (r : Fin 1536) (q : Fin 2048)
    (h0 : r.val = o + (x 0).val) (h1 : q.val = (x 1).val) (hf : f = a) :
    View.ld (Val := Elt Ideal) (S := S1536x2048) (e' := .f32) f (Rect.unit ![o, 0] ![256, 2048] h) x = a (ix2 r q) := by
  subst hf
  obtain ⟨r', q', rfl⟩ : ∃ (r' : Fin 256) (q' : Fin 2048), x = ix2 r' q' := ⟨x 0, x 1, eq_ix2 x⟩
  obtain rfl : q = q' := Fin.ext h1
  obtain rfl : r = ⟨o + r'.val, (Nat.add_lt_add_left r'.isLt o).trans_le ho⟩ := Fin.ext h0
  exact ld_rows f ho h r' q

/-- Rows of the zeros that the first point starts from. -/
theorem zero_rows {o : ℕ} (ho : o + 256 ≤ 1536) (h) (x : S256x2048.Idx) :
    View.ld (Val := Elt Ideal) (S := S1536x2048) (e' := .f32) (k0_pay24 (F := Ideal)) (Rect.unit ![o, 0] ![256, 2048] h) x = 0 := by
  obtain ⟨r', q', rfl⟩ : ∃ (r' : Fin 256) (q' : Fin 2048), x = ix2 r' q' := ⟨x 0, x 1, eq_ix2 x⟩
  rw [ld_rows _ ho]
  pointwise [k0_pay24]

/-- Stores over the whole buffer leave nothing of what an earlier store put there. -/
theorem canon_over (L L' : List (View.Piece (Elt Ideal) S1536x2048 .f32)) (y : S1536x2048.Idx) (h : ∃ p ∈ L, y ∈ p.1.set) :
    View.canon (L ++ L') y = View.canon L y := by
  induction L with
  | nil => obtain ⟨p, hp, _⟩ := h; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine ih ?_
      obtain ⟨q, hq, hyq⟩ := h
      rcases List.mem_cons.mp hq with rfl | hq'
      · exact absurd hyq hm
      · exact ⟨q, hq', hyq⟩

/-- Six stores of 256 rows each, and the one before them. -/
theorem canon_over_six (w5 w4 w3 w2 w1 w0 : Vec Ideal S256x2048 .f32) (z : View.Piece (Elt Ideal) S1536x2048 .f32) (y : S1536x2048.Idx) :
    View.canon [⟨Rect.unit ![1280, 0] ![256, 2048] inb_S1536x2048_S256x2048_1280_0, w5⟩,
      ⟨Rect.unit ![1024, 0] ![256, 2048] inb_S1536x2048_S256x2048_1024_0, w4⟩,
      ⟨Rect.unit ![768, 0] ![256, 2048] inb_S1536x2048_S256x2048_768_0, w3⟩,
      ⟨Rect.unit ![512, 0] ![256, 2048] inb_S1536x2048_S256x2048_512_0, w2⟩,
      ⟨Rect.unit ![256, 0] ![256, 2048] inb_S1536x2048_S256x2048_256_0, w1⟩,
      ⟨Rect.unit ![0, 0] ![256, 2048] inb_S1536x2048_S256x2048_0_0, w0⟩, z] y
    = View.canon [⟨Rect.unit ![1280, 0] ![256, 2048] inb_S1536x2048_S256x2048_1280_0, w5⟩,
      ⟨Rect.unit ![1024, 0] ![256, 2048] inb_S1536x2048_S256x2048_1024_0, w4⟩,
      ⟨Rect.unit ![768, 0] ![256, 2048] inb_S1536x2048_S256x2048_768_0, w3⟩,
      ⟨Rect.unit ![512, 0] ![256, 2048] inb_S1536x2048_S256x2048_512_0, w2⟩,
      ⟨Rect.unit ![256, 0] ![256, 2048] inb_S1536x2048_S256x2048_256_0, w1⟩,
      ⟨Rect.unit ![0, 0] ![256, 2048] inb_S1536x2048_S256x2048_0_0, w0⟩] y :=
  canon_over [_, _, _, _, _, _] [z] y (View.cover_of_tiledL (Val := Elt Ideal) (s := S1536x2048) (e := .f32) _ S256x2048.size (by sl_kernel_rfl) y)

/-- The running product after the first point is that point's part. -/
theorem acc_A (t : Fin cfg0.N) (h0 : t.val % 16 = 0) (h1 : ¬t.val % 16 = 15) (r : Fin 1536) (q : Fin 2048) :
    (outsAt0 m c t.val t.isLt).2.2 (ix2 r q) = 0 + part m c t r q := by
  rw [outsAt0_A m c t h0 h1]
  frame_out
  refine (canon_over_six _ _ _ _ _ _ _ _).trans ?_
  canon_tiles x h
  · rw [acc5]; refine acc_piece m c t (by norm_num) _ _ _ _ x r q h0 h1 ?_
    iterate 5 rw [View.readCov_skip _ _ _ _ _ (by decide)]
    rw [View.readCov_fill _ _ _ _ _ (by decide)]
    exact zero_rows (by norm_num) _ x
  · rw [acc4]; refine acc_piece m c t (by norm_num) _ _ _ _ x r q h0 h1 ?_
    iterate 4 rw [View.readCov_skip _ _ _ _ _ (by decide)]
    rw [View.readCov_fill _ _ _ _ _ (by decide)]
    exact zero_rows (by norm_num) _ x
  · rw [acc3]; refine acc_piece m c t (by norm_num) _ _ _ _ x r q h0 h1 ?_
    iterate 3 rw [View.readCov_skip _ _ _ _ _ (by decide)]
    rw [View.readCov_fill _ _ _ _ _ (by decide)]
    exact zero_rows (by norm_num) _ x
  · rw [acc2]; refine acc_piece m c t (by norm_num) _ _ _ _ x r q h0 h1 ?_
    iterate 2 rw [View.readCov_skip _ _ _ _ _ (by decide)]
    rw [View.readCov_fill _ _ _ _ _ (by decide)]
    exact zero_rows (by norm_num) _ x
  · rw [acc1]; refine acc_piece m c t (by norm_num) _ _ _ _ x r q h0 h1 ?_
    iterate 1 rw [View.readCov_skip _ _ _ _ _ (by decide)]
    rw [View.readCov_fill _ _ _ _ _ (by decide)]
    exact zero_rows (by norm_num) _ x
  · refine acc_piece m c t (by norm_num) _ _ _ _ x r q (h0.trans (Nat.zero_add _).symm) h1 ?_
    rw [View.readCov_fill _ _ _ _ _ (by decide)]
    exact zero_rows (by norm_num) _ x

/-- The running product after a middle point is the one before and that point's part. -/
theorem acc_B (t : Fin cfg0.N) (h0 : ¬t.val % 16 = 0) (h1 : ¬t.val % 16 = 15) (r : Fin 1536) (q : Fin 2048) :
    (outsAt0 m c t.val t.isLt).2.2 (ix2 r q) = (outsAt0 m c (t.val - 1) (by have := t.isLt; omega)).2.2 (ix2 r q) + part m c t r q := by
  rw [outsAt0_B m c t h0 h1]
  frame_out
  canon_tiles x h
  · rw [acc5]; exact acc_piece m c t (by norm_num) _ _ _ _ x r q h0 h1 (carried_rows (by norm_num) _ x r q h0 h1 (read_unread_whole _ _ _))
  · rw [acc4]; exact acc_piece m c t (by norm_num) _ _ _ _ x r q h0 h1 (carried_rows (by norm_num) _ x r q h0 h1 (read_unread_whole _ _ _))
  · rw [acc3]; exact acc_piece m c t (by norm_num) _ _ _ _ x r q h0 h1 (carried_rows (by norm_num) _ x r q h0 h1 (read_unread_whole _ _ _))
  · rw [acc2]; exact acc_piece m c t (by norm_num) _ _ _ _ x r q h0 h1 (carried_rows (by norm_num) _ x r q h0 h1 (read_unread_whole _ _ _))
  · rw [acc1]; exact acc_piece m c t (by norm_num) _ _ _ _ x r q h0 h1 (carried_rows (by norm_num) _ x r q h0 h1 (read_unread_whole _ _ _))
  · exact acc_piece m c t (by norm_num) _ _ _ _ x r q (h0.trans (Nat.zero_add _).symm) h1 (carried_rows (by norm_num) _ x r q (h0.trans (Nat.zero_add _).symm) h1 (read_unread_whole _ _ _))

/-- The running product after the last point is the one before and that point's part. -/
theorem acc_C (t : Fin cfg0.N) (h0 : ¬t.val % 16 = 0) (h1 : t.val % 16 = 15) (r : Fin 1536) (q : Fin 2048) :
    (outsAt0 m c t.val t.isLt).2.2 (ix2 r q) = (outsAt0 m c (t.val - 1) (by have := t.isLt; omega)).2.2 (ix2 r q) + part m c t r q := by
  rw [outsAt0_C m c t h0 h1]
  frame_out
  canon_tiles x h
  · rw [acc5]; exact acc_piece m c t (by norm_num) _ _ _ _ x r q h0 h1 (carried_rows (by norm_num) _ x r q h0 h1 (read_unread_whole _ _ _))
  · rw [acc4]; exact acc_piece m c t (by norm_num) _ _ _ _ x r q h0 h1 (carried_rows (by norm_num) _ x r q h0 h1 (read_unread_whole _ _ _))
  · rw [acc3]; exact acc_piece m c t (by norm_num) _ _ _ _ x r q h0 h1 (carried_rows (by norm_num) _ x r q h0 h1 (read_unread_whole _ _ _))
  · rw [acc2]; exact acc_piece m c t (by norm_num) _ _ _ _ x r q h0 h1 (carried_rows (by norm_num) _ x r q h0 h1 (read_unread_whole _ _ _))
  · rw [acc1]; exact acc_piece m c t (by norm_num) _ _ _ _ x r q h0 h1 (carried_rows (by norm_num) _ x r q h0 h1 (read_unread_whole _ _ _))
  · exact acc_piece m c t (by norm_num) _ _ _ _ x r q (h0.trans (Nat.zero_add _).symm) h1 (carried_rows (by norm_num) _ x r q (h0.trans (Nat.zero_add _).symm) h1 (read_unread_whole _ _ _))

/-- The running product after point `n` is the sum of the parts up to it. -/
theorem acc_sum (r : Fin 1536) (q : Fin 2048) : ∀ (n : ℕ) (hn : n < cfg0.N),
    (outsAt0 m c n hn).2.2 (ix2 r q) = ∑ t : Fin (n + 1), part m c ⟨t.val, lt_of_lt_of_le t.isLt hn⟩ r q
  | 0, hn => by
    rw [acc_A m c ⟨0, hn⟩ rfl (by norm_num) r q, zero_add]
    exact (Fin.sum_univ_one (fun t : Fin 1 => part m c ⟨t.val, lt_of_lt_of_le t.isLt hn⟩ r q)).symm
  | n + 1, hn => by
    have h16 : n + 1 < 16 := lt16 ⟨n + 1, hn⟩
    have ih := acc_sum r q n (by omega)
    rw [Fin.sum_univ_castSucc]
    have key : (outsAt0 m c (n + 1) hn).2.2 (ix2 r q) = (outsAt0 m c n (by omega)).2.2 (ix2 r q) + part m c ⟨n + 1, hn⟩ r q := by
      by_cases h1 : (n + 1) % 16 = 15
      · exact acc_C m c ⟨n + 1, hn⟩ (by simp only []; omega) h1 r q
      · exact acc_B m c ⟨n + 1, hn⟩ (by simp only []; omega) h1 r q
    rw [key, ih]
    rfl

/-- The down product: codes widened by their scales against the down weights, over all hidden columns. -/
theorem acc_total (t : Fin cfg0.N) (h : t.val = 15) (r : Fin 1536) (q : Fin 2048) :
    (outsAt0 m c t.val t.isLt).2.2 (ix2 r q) = prod (m ((c : Thread nD τ).loc main_arg0)) (m ((c : Thread nD τ).loc main_arg1))
      (m ((c : Thread nD τ).loc main_arg2)) (m ((c : Thread nD τ).loc main_arg3)) r q := by
  obtain ⟨t, ht⟩ := t
  obtain rfl : t = 15 := h
  rw [acc_sum]
  exact Fin.sum_mul_add_congr fun s k hl => rfl

end Cert.FfIdeal.Acc
end
-- ==== Proof.FfNorm.lean ====
module
public import proofs.«01_k».proof.Proof.FfAcc

/-! The two results that the last grid point copies out: the scaled down product and the layer's output. -/

@[expose] public section

noncomputable section

set_option maxRecDepth 16384

namespace Cert.FfIdeal.Norm

open Idealize.ShloMosaic Idealize.ShloMosaic.TcCoe Cert.Quant Cert.FfMath Cert.FfIdeal Cert.FfIdeal.Gen Cert.FfIdeal.Tile Cert.FfIdeal.Blocks Cert.FfIdeal.Acc

/-! One row tile of the two results: the body treats six tiles the same way, each with its own words. -/

section tile
variable (v : Vec Ideal S256x2048 .f32) (s : Elt Ideal .f32) (n : Vec Ideal S1x2048 .f32) (h : Vec Ideal S256x2048 .f32)

theorem down1 : k0_pay8 v s = k0_pay5 v s := rfl
theorem down2 : k0_pay12 v s = k0_pay5 v s := rfl
theorem down3 : k0_pay15 v s = k0_pay5 v s := rfl
theorem down4 : k0_pay19 v s = k0_pay5 v s := rfl
theorem down5 : k0_pay22 v s = k0_pay5 v s := rfl

theorem out1 : k0_pay10 (k0_pay9 v s) n h = k0_pay6 v s n h := rfl
theorem out2 : k0_pay13 v s n h = k0_pay6 v s n h := rfl
theorem out3 : k0_pay17 (k0_pay16 v s n) h = k0_pay6 v s n h := rfl
theorem out4 : k0_pay20 (k0_pay18 v s) n h = k0_pay6 v s n h := rfl
theorem out5 : k0_pay3 (k0_pay23 v s n h) = k0_pay6 v s n h := rfl

/-- A tile's scaled down product. -/
theorem scaled_apply (r : Fin 256) (q : Fin 2048) : k0_pay4 v s (ix2 r q) = v (ix2 r q) * s := by
  pointwise [k0_pay4]

/-- A tile's scaled down product, as stored. -/
theorem pay5_apply (r : Fin 256) (q : Fin 2048) : k0_pay5 v s (ix2 r q) = k0_pay4 v s (ix2 r q) := by
  unfold k0_pay5
  generalize k0_pay4 v s = z
  pointwise

/-- A tile's output. -/
theorem pay6_apply (r : Fin 256) (q : Fin 2048) : k0_pay6 v s n h (ix2 r q)
    = h (ix2 r q) + k0_pay4 v s (ix2 r q) * rms (fun k => k0_pay4 v s (ix2 r k)) * n (ix2 0 q) := by
  unfold k0_pay6 rms
  generalize k0_pay4 v s = z
  pointwise

end tile

section closed
variable (hw : S1536x2048.Idx → EReal) (wff : S2x2048x8192.Idx → EReal) (wd : S8192x2048.Idx → EReal) (wsc : S2.Idx → EReal)
variable {v : Vec Ideal S256x2048 .f32} {s : Elt Ideal .f32} {o : ℕ} (ho : o + 256 ≤ 1536)
  (hv : ∀ (r : Fin 256) q, v (ix2 r q) = prod hw wff wd wsc ⟨o + r.val, by omega⟩ q) (hs : s = wsc (ix1 1))
include ho hv hs

/-- A tile's scaled down product is the closed form's rows. -/
theorem scaled_of (r : Fin 256) (q : Fin 2048) : k0_pay4 v s (ix2 r q) = down hw wff wd wsc ⟨o + r.val, by omega⟩ q := by
  rw [scaled_apply, hv, hs]
  rfl

/-- A tile of the stored down product. -/
theorem down_tile (x : S256x2048.Idx) (i : Fin 1536) (q : Fin 2048) (h0 : i.val = o + (x 0).val) (h1 : q.val = (x 1).val) :
    k0_pay5 v s x = down hw wff wd wsc i q := by
  obtain ⟨r', q', rfl⟩ : ∃ (r' : Fin 256) (q' : Fin 2048), x = ix2 r' q' := ⟨x 0, x 1, eq_ix2 x⟩
  obtain rfl : q = q' := Fin.ext h1
  obtain rfl : i = ⟨o + r'.val, (Nat.add_lt_add_left r'.isLt o).trans_le ho⟩ := Fin.ext h0
  rw [pay5_apply]
  exact scaled_of hw wff wd wsc ho hv hs r' q

/-- A tile of the stored output. -/
theorem out_tile (h1 : S1536x2048.Idx → EReal) (nw : S1x2048.Idx → EReal) {n : Vec Ideal S1x2048 .f32} {h : Vec Ideal S256x2048 .f32}
    (hn : ∀ q, n (ix2 0 q) = nw (ix2 0 q)) (hh : ∀ (r : Fin 256) q, h (ix2 r q) = h1 (ix2 ⟨o + r.val, by omega⟩ q))
    (x : S256x2048.Idx) (i : Fin 1536) (q : Fin 2048) (e0 : i.val = o + (x 0).val) (e1 : q.val = (x 1).val) :
    k0_pay6 v s n h x = out hw wff wd wsc h1 nw i q := by
  obtain ⟨r', q', rfl⟩ : ∃ (r' : Fin 256) (q' : Fin 2048), x = ix2 r' q' := ⟨x 0, x 1, eq_ix2 x⟩
  obtain rfl : q = q' := Fin.ext e1
  obtain rfl : i = ⟨o + r'.val, (Nat.add_lt_add_left r'.isLt o).trans_le ho⟩ := Fin.ext e0
  rw [pay6_apply, hn, hh]
  simp only [scaled_of hw wff wd wsc ho hv hs]
  rfl

end closed

/-- A store over the whole of a buffer, read back. -/
theorem top_piece {κ : Kind} {sp : Space} {e : EltTy} (v : View sig κ sp S256x2048 e) (f : v.ty.Contents (Elt Ideal)) {off : Fin 2 → ℕ} (inb)
    (w : Vec Ideal S256x2048 e) (L : List (View.Piece (Elt Ideal) S256x2048 e)) (h : ∀ a, off a = 0) :
    v.read (Elt Ideal) (v.writes (Elt Ideal) f (⟨Rect.unit off S256x2048.size inb, w⟩ :: L)) = w := by
  obtain rfl : off = fun _ => 0 := funext h
  funext x
  have := View.read_writes_cons_emb (Val := Elt Ideal) v f (Rect.unit (fun _ => 0) S256x2048.size inb) w L x
  refine Eq.trans (congrArg _ ?_) this
  funext a
  refine Fin.ext ?_
  first | (show (x a).val = 0 + (x a).val * 1; omega) | (show (x a).val = 0 + 1 * (x a).val; omega)

/-- A copy over the whole of a buffer, loaded. -/
theorem whole_piece {κ : Kind} {sp : Space} {e : EltTy} (v : View sig κ sp S256x2048 e) {off : Fin 2 → ℕ} (inb)
    (w : Vec Ideal S256x2048 e) (L : List (View.Piece (Elt Ideal) S256x2048 e)) (h : ∀ a, off a = 0) :
    v.readCov (Val := Elt Ideal) (⟨Rect.whole S256x2048, w⟩ :: L) (Rect.unit off S256x2048.size inb).toLoadRect = w := by
  obtain rfl : off = fun _ => 0 := funext h
  funext x
  refine Eq.trans (congrArg _ ?_) (View.read_writes_cons_emb (Val := Elt Ideal) v v.junk (Rect.whole S256x2048) w L x)
  funext a
  exact Fin.ext (by simp [Rect.emb, LoadRect.idx])

variable (m : (ℓ : Loc nD τ sig) → Buf (Elt Ideal) ℓ) (c : Dev nD)

/-- The last point's run. -/
abbrev lastC (t : Fin cfg0.N) (h0 : ¬t.val % 16 = 0) (h1 : t.val % 16 = 15) :=
  kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2 (V m c main_arg4)

/-- The last point's run, the results in HBM named. -/
abbrev lastV (t : Fin cfg0.N) (h0 : ¬t.val % 16 = 0) (h1 : t.val % 16 = 15) :=
  kernelRun0_V (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2 (V m c main_arg4)

/-- The two runs store the same pieces. -/
theorem last_pieces (t : Fin cfg0.N) (h0 : ¬t.val % 16 = 0) (h1 : t.val % 16 = 15) :
    (lastV m c t h0 h1).1 = (lastC m c t h0 h1).1 ∧ (lastV m c t h0 h1).2.1 = (lastC m c t h0 h1).2.1
      ∧ (lastV m c t h0 h1).2.2.1 = (lastC m c t h0 h1).2.2.1 := ⟨rfl, rfl, rfl⟩

/-- Six copies of 256 rows each into a whole buffer, whatever it held. -/
theorem six_canon (w5 w4 w3 w2 w1 w0 : Vec Ideal S256x2048 .bf16) (y : S1536x2048.Idx) (z : EReal)
    (g5 : ∀ x : S256x2048.Idx, (y 0).val = 1280 + (x 0).val → (y 1).val = (x 1).val → w5 x = z)
    (g4 : ∀ x : S256x2048.Idx, (y 0).val = 1024 + (x 0).val → (y 1).val = (x 1).val → w4 x = z)
    (g3 : ∀ x : S256x2048.Idx, (y 0).val = 768 + (x 0).val → (y 1).val = (x 1).val → w3 x = z)
    (g2 : ∀ x : S256x2048.Idx, (y 0).val = 512 + (x 0).val → (y 1).val = (x 1).val → w2 x = z)
    (g1 : ∀ x : S256x2048.Idx, (y 0).val = 256 + (x 0).val → (y 1).val = (x 1).val → w1 x = z)
    (g0 : ∀ x : S256x2048.Idx, (y 0).val = 0 + (x 0).val → (y 1).val = (x 1).val → w0 x = z) :
    View.canon (Val := Elt Ideal) (s := S1536x2048) (e := .bf16) [⟨Rect.unit ![1280, 0] ![256, 2048] inb_S1536x2048_S256x2048_1280_0, w5⟩,
      ⟨Rect.unit ![1024, 0] ![256, 2048] inb_S1536x2048_S256x2048_1024_0, w4⟩,
      ⟨Rect.unit ![768, 0] ![256, 2048] inb_S1536x2048_S256x2048_768_0, w3⟩,
      ⟨Rect.unit ![512, 0] ![256, 2048] inb_S1536x2048_S256x2048_512_0, w2⟩,
      ⟨Rect.unit ![256, 0] ![256, 2048] inb_S1536x2048_S256x2048_256_0, w1⟩,
      ⟨Rect.unit ![0, 0] ![256, 2048] inb_S1536x2048_S256x2048_0_0, w0⟩] y = z := by
  canon_tiles x h
  · exact g5 x ‹_› ‹_›
  · exact g4 x ‹_› ‹_›
  · exact g3 x ‹_› ‹_›
  · exact g2 x ‹_› ‹_›
  · exact g1 x ‹_› ‹_›
  · exact g0 x (by omega) ‹_›

/-- The same, into the first result. -/
theorem six_out (f : (main_v0_0 : Ref sig .tc).ty.Contents (Elt Ideal)) (w5 w4 w3 w2 w1 w0 : Vec Ideal S256x2048 .bf16) (y : S1536x2048.Idx) (z : EReal)
    (h5 : ∀ x : S256x2048.Idx, (y 0).val = 1280 + (x 0).val → (y 1).val = (x 1).val → w5 x = z)
    (h4 : ∀ x : S256x2048.Idx, (y 0).val = 1024 + (x 0).val → (y 1).val = (x 1).val → w4 x = z)
    (h3 : ∀ x : S256x2048.Idx, (y 0).val = 768 + (x 0).val → (y 1).val = (x 1).val → w3 x = z)
    (h2 : ∀ x : S256x2048.Idx, (y 0).val = 512 + (x 0).val → (y 1).val = (x 1).val → w2 x = z)
    (h1 : ∀ x : S256x2048.Idx, (y 0).val = 256 + (x 0).val → (y 1).val = (x 1).val → w1 x = z)
    (h0 : ∀ x : S256x2048.Idx, (y 0).val = 0 + (x 0).val → (y 1).val = (x 1).val → w0 x = z) :
    (View.whole main_v0_0).writes (Elt Ideal) f [⟨Rect.unit ![1280, 0] ![256, 2048] inb_S1536x2048_S256x2048_1280_0, w5⟩,
      ⟨Rect.unit ![1024, 0] ![256, 2048] inb_S1536x2048_S256x2048_1024_0, w4⟩,
      ⟨Rect.unit ![768, 0] ![256, 2048] inb_S1536x2048_S256x2048_768_0, w3⟩,
      ⟨Rect.unit ![512, 0] ![256, 2048] inb_S1536x2048_S256x2048_512_0, w2⟩,
      ⟨Rect.unit ![256, 0] ![256, 2048] inb_S1536x2048_S256x2048_256_0, w1⟩,
      ⟨Rect.unit ![0, 0] ![256, 2048] inb_S1536x2048_S256x2048_0_0, w0⟩] y = z := by
  generalize hL : ([⟨Rect.unit ![1280, 0] ![256, 2048] inb_S1536x2048_S256x2048_1280_0, w5⟩,
      ⟨Rect.unit ![1024, 0] ![256, 2048] inb_S1536x2048_S256x2048_1024_0, w4⟩,
      ⟨Rect.unit ![768, 0] ![256, 2048] inb_S1536x2048_S256x2048_768_0, w3⟩,
      ⟨Rect.unit ![512, 0] ![256, 2048] inb_S1536x2048_S256x2048_512_0, w2⟩,
      ⟨Rect.unit ![256, 0] ![256, 2048] inb_S1536x2048_S256x2048_256_0, w1⟩,
      ⟨Rect.unit ![0, 0] ![256, 2048] inb_S1536x2048_S256x2048_0_0, w0⟩] : List (View.Piece (Elt Ideal) S1536x2048 .bf16)) = L
  have hc : ∃ p ∈ L, y ∈ p.1.set := by
    subst hL
    exact View.cover_of_tiledL (Val := Elt Ideal) (s := S1536x2048) (e := .bf16) _ S256x2048.size (by sl_kernel_rfl) y
  have hz : View.canon (Val := Elt Ideal) L y = z := by
    subst hL
    exact six_canon w5 w4 w3 w2 w1 w0 y z h5 h4 h3 h2 h1 h0
  have := View.read_writes_apply_eq_canon (Val := Elt Ideal) (View.whole main_v0_0) f y L hc
  exact this.trans hz

/-- The same, into the second result. -/
theorem six_down (f : (main_v0_1 : Ref sig .tc).ty.Contents (Elt Ideal)) (w5 w4 w3 w2 w1 w0 : Vec Ideal S256x2048 .bf16) (y : S1536x2048.Idx) (z : EReal)
    (h5 : ∀ x : S256x2048.Idx, (y 0).val = 1280 + (x 0).val → (y 1).val = (x 1).val → w5 x = z)
    (h4 : ∀ x : S256x2048.Idx, (y 0).val = 1024 + (x 0).val → (y 1).val = (x 1).val → w4 x = z)
    (h3 : ∀ x : S256x2048.Idx, (y 0).val = 768 + (x 0).val → (y 1).val = (x 1).val → w3 x = z)
    (h2 : ∀ x : S256x2048.Idx, (y 0).val = 512 + (x 0).val → (y 1).val = (x 1).val → w2 x = z)
    (h1 : ∀ x : S256x2048.Idx, (y 0).val = 256 + (x 0).val → (y 1).val = (x 1).val → w1 x = z)
    (h0 : ∀ x : S256x2048.Idx, (y 0).val = 0 + (x 0).val → (y 1).val = (x 1).val → w0 x = z) :
    (View.whole main_v0_1).writes (Elt Ideal) f [⟨Rect.unit ![1280, 0] ![256, 2048] inb_S1536x2048_S256x2048_1280_0, w5⟩,
      ⟨Rect.unit ![1024, 0] ![256, 2048] inb_S1536x2048_S256x2048_1024_0, w4⟩,
      ⟨Rect.unit ![768, 0] ![256, 2048] inb_S1536x2048_S256x2048_768_0, w3⟩,
      ⟨Rect.unit ![512, 0] ![256, 2048] inb_S1536x2048_S256x2048_512_0, w2⟩,
      ⟨Rect.unit ![256, 0] ![256, 2048] inb_S1536x2048_S256x2048_256_0, w1⟩,
      ⟨Rect.unit ![0, 0] ![256, 2048] inb_S1536x2048_S256x2048_0_0, w0⟩] y = z := by
  generalize hL : ([⟨Rect.unit ![1280, 0] ![256, 2048] inb_S1536x2048_S256x2048_1280_0, w5⟩,
      ⟨Rect.unit ![1024, 0] ![256, 2048] inb_S1536x2048_S256x2048_1024_0, w4⟩,
      ⟨Rect.unit ![768, 0] ![256, 2048] inb_S1536x2048_S256x2048_768_0, w3⟩,
      ⟨Rect.unit ![512, 0] ![256, 2048] inb_S1536x2048_S256x2048_512_0, w2⟩,
      ⟨Rect.unit ![256, 0] ![256, 2048] inb_S1536x2048_S256x2048_256_0, w1⟩,
      ⟨Rect.unit ![0, 0] ![256, 2048] inb_S1536x2048_S256x2048_0_0, w0⟩] : List (View.Piece (Elt Ideal) S1536x2048 .bf16)) = L
  have hc : ∃ p ∈ L, y ∈ p.1.set := by
    subst hL
    exact View.cover_of_tiledL (Val := Elt Ideal) (s := S1536x2048) (e := .bf16) _ S256x2048.size (by sl_kernel_rfl) y
  have hz : View.canon (Val := Elt Ideal) L y = z := by
    subst hL
    exact six_canon w5 w4 w3 w2 w1 w0 y z h5 h4 h3 h2 h1 h0
  have := View.read_writes_apply_eq_canon (Val := Elt Ideal) (View.whole main_v0_1) f y L hc
  exact this.trans hz

/-- The accumulator's pieces after the last point hold the down product. -/
theorem canon_last (t : Fin cfg0.N) (h0 : ¬t.val % 16 = 0) (h1 : t.val % 16 = 15) (r : Fin 1536) (q : Fin 2048) :
    View.canon (lastV m c t h0 h1).2.2.1 (ix2 r q) = prod (m ((c : Thread nD τ).loc main_arg0)) (m ((c : Thread nD τ).loc main_arg1))
      (m ((c : Thread nD τ).loc main_arg2)) (m ((c : Thread nD τ).loc main_arg3)) r q := by
  rw [(last_pieces m c t h0 h1).2.2, ← acc_total m c t (by have := lt16 t; omega), outsAt0_C m c t h0 h1]
  unfold sout0_C_0
  dsimp only
  rw [View.read_writes_junk_eq_canon]

/-- Rows of the accumulator, loaded after the last point's stores. -/
theorem acc_ld (t : Fin cfg0.N) (h0 : ¬t.val % 16 = 0) (h1 : t.val % 16 = 15) {o : ℕ} (ho : o + 256 ≤ 1536) (h) (r : Fin 256) (q : Fin 2048) :
    scM0_0.view.readCov (lastV m c t h0 h1).2.2.1 (Rect.unit (s := S1536x2048) ![o, 0] S256x2048.size h).toLoadRect (ix2 r q)
      = prod (m ((c : Thread nD τ).loc main_arg0)) (m ((c : Thread nD τ).loc main_arg1))
          (m ((c : Thread nD τ).loc main_arg2)) (m ((c : Thread nD τ).loc main_arg3)) ⟨o + r.val, by omega⟩ q := by
  rw [← canon_last m c t h0 h1, View.readCov_eq_canon']
  show View.canon _ _ = View.canon _ _
  congr 1
  funext a
  fin_cases a <;> exact Fin.ext (by simp)

/-- The second factor, as loaded. -/
theorem wsc1_ld (t : Fin cfg0.N) (i : (⟨1, ![1]⟩ : Shape).Idx) :
    (ms0_0 t).view.readAt (Elt Ideal) (Rect.unit (s := S2) ![1] S1.size inb_S2_S1_1).toLoadRect ((hs0_0 t).unread (iblk m c 0 t)) i
      = m ((c : Thread nD τ).loc main_arg3) (ix1 1) := by
  rw [View.readAt_eq_ld, Memref.IsWhole.read_unread]
  pointwise
  exact wsc_blk m c t 1

/-- The norm weights, as loaded. -/
theorem nw_ld (t : Fin cfg0.N) (q : Fin 2048) :
    (ms0_4 t).view.readAt (Elt Ideal) (Rect.unit (s := S1x2048) ![0, 0] S1x2048.size inb_S1x2048_S1x2048_0_0).toLoadRect ((hs0_4 t).unread (iblk m c 4 t)) (ix2 0 q)
      = m ((c : Thread nD τ).loc main_arg5) (ix2 0 q) := by
  rw [View.readAt_eq_ld, Memref.IsWhole.read_unread]
  pointwise
  blk_ext [iblk, V, idx t]

/-- Rows of the residual, copied in and loaded. -/
theorem h1_ld {κ : Kind} {sp : Space} (v : View sig κ sp S256x2048 .f32) {o : ℕ} (ho : o + 256 ≤ 1536) (h h' k) (L : List (View.Piece (Elt Ideal) S256x2048 .f32))
    (r : Fin 256) (q : Fin 2048) :
    v.readCov (⟨Rect.whole S256x2048, ReadAs.same.apply (View.read (Elt Ideal)
        ((Memref.whole main_arg4).slice (Rect.unit (s := S1536x2048) ![o, 0] S256x2048.size h) k).view (V m c main_arg4))⟩ :: L)
      (Rect.unit ![0, 0] S256x2048.size h').toLoadRect (ix2 r q)
      = m ((c : Thread nD τ).loc main_arg4) (ix2 ⟨o + r.val, by omega⟩ q) := by
  rw [whole_piece v h' _ L (by decide)]
  show m ((c : Thread nD τ).loc main_arg4) _ = _
  congr 1
  funext a
  fin_cases a <;> exact Fin.ext (by simp)

/-- What the last point leaves in the first result: the output. -/
theorem out_last (t : Fin cfg0.N) (h0 : ¬t.val % 16 = 0) (h1 : t.val % 16 = 15) (f1) (f2) (f3) (f) (y : S1536x2048.Idx) :
    (lastV m c t h0 h1).2.2.2.1 f1 f2 f3 f y = out (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) (y 0) (y 1) := by
  unfold lastV kernelRun0_V
  dsimp only
  refine six_out _ _ _ _ _ _ _ y _ ?_ ?_ ?_ ?_ ?_ ?_ <;> intro x hr hc
  · refine (congrFun (top_piece _ _ _ _ _ (by decide)) x).trans ?_
    refine (congrFun (out5 _ _ _ _) x).trans ?_
    exact out_tile _ _ _ _ (o := 1280) (by norm_num) (fun r q => acc_ld m c t h0 h1 (by norm_num) _ r q) (wsc1_ld m c t _) _ _ (fun q => nw_ld m c t q) (fun r q => h1_ld m c _ (by norm_num) _ _ _ _ r q) x (y 0) (y 1) hr hc
  · refine (congrFun (top_piece _ _ _ _ _ (by decide)) x).trans ?_
    refine (congrFun (out4 _ _ _ _) x).trans ?_
    exact out_tile _ _ _ _ (o := 1024) (by norm_num) (fun r q => acc_ld m c t h0 h1 (by norm_num) _ r q) (wsc1_ld m c t _) _ _ (fun q => nw_ld m c t q) (fun r q => h1_ld m c _ (by norm_num) _ _ _ _ r q) x (y 0) (y 1) hr hc
  · refine (congrFun (top_piece _ _ _ _ _ (by decide)) x).trans ?_
    refine (congrFun (out3 _ _ _ _) x).trans ?_
    exact out_tile _ _ _ _ (o := 768) (by norm_num) (fun r q => acc_ld m c t h0 h1 (by norm_num) _ r q) (wsc1_ld m c t _) _ _ (fun q => nw_ld m c t q) (fun r q => h1_ld m c _ (by norm_num) _ _ _ _ r q) x (y 0) (y 1) hr hc
  · refine (congrFun (top_piece _ _ _ _ _ (by decide)) x).trans ?_
    refine (congrFun (out2 _ _ _ _) x).trans ?_
    exact out_tile _ _ _ _ (o := 512) (by norm_num) (fun r q => acc_ld m c t h0 h1 (by norm_num) _ r q) (wsc1_ld m c t _) _ _ (fun q => nw_ld m c t q) (fun r q => h1_ld m c _ (by norm_num) _ _ _ _ r q) x (y 0) (y 1) hr hc
  · refine (congrFun (top_piece _ _ _ _ _ (by decide)) x).trans ?_
    refine (congrFun (out1 _ _ _ _) x).trans ?_
    exact out_tile _ _ _ _ (o := 256) (by norm_num) (fun r q => acc_ld m c t h0 h1 (by norm_num) _ r q) (wsc1_ld m c t _) _ _ (fun q => nw_ld m c t q) (fun r q => h1_ld m c _ (by norm_num) _ _ _ _ r q) x (y 0) (y 1) hr hc
  · refine (congrFun (top_piece _ _ _ _ _ (by decide)) x).trans ?_
    exact out_tile _ _ _ _ (o := 0) (by norm_num) (fun r q => acc_ld m c t h0 h1 (by norm_num) _ r q) (wsc1_ld m c t _) _ _ (fun q => nw_ld m c t q) (fun r q => h1_ld m c _ (by norm_num) _ _ _ _ r q) x (y 0) (y 1) hr hc

/-- What the last point leaves in the second result: the scaled down product. -/
theorem down_last (t : Fin cfg0.N) (h0 : ¬t.val % 16 = 0) (h1 : t.val % 16 = 15) (f1) (f2) (f3) (f) (y : S1536x2048.Idx) :
    (lastV m c t h0 h1).2.2.2.2.1 f1 f2 f3 f y = down (m ((c : Thread nD τ).loc main_arg0)) (m ((c : Thread nD τ).loc main_arg1))
      (m ((c : Thread nD τ).loc main_arg2)) (m ((c : Thread nD τ).loc main_arg3)) (y 0) (y 1) := by
  unfold lastV kernelRun0_V
  dsimp only
  refine six_down _ _ _ _ _ _ _ y _ ?_ ?_ ?_ ?_ ?_ ?_ <;> intro x hr hc
  · refine (congrFun (top_piece _ _ _ _ _ (by decide)) x).trans ?_
    refine (congrFun (down5 _ _) x).trans ?_
    exact down_tile _ _ _ _ (o := 1280) (by norm_num) (fun r q => acc_ld m c t h0 h1 (by norm_num) _ r q) (wsc1_ld m c t _) x (y 0) (y 1) hr hc
  · refine (congrFun (top_piece _ _ _ _ _ (by decide)) x).trans ?_
    refine (congrFun (down4 _ _) x).trans ?_
    exact down_tile _ _ _ _ (o := 1024) (by norm_num) (fun r q => acc_ld m c t h0 h1 (by norm_num) _ r q) (wsc1_ld m c t _) x (y 0) (y 1) hr hc
  · refine (congrFun (top_piece _ _ _ _ _ (by decide)) x).trans ?_
    refine (congrFun (down3 _ _) x).trans ?_
    exact down_tile _ _ _ _ (o := 768) (by norm_num) (fun r q => acc_ld m c t h0 h1 (by norm_num) _ r q) (wsc1_ld m c t _) x (y 0) (y 1) hr hc
  · refine (congrFun (top_piece _ _ _ _ _ (by decide)) x).trans ?_
    refine (congrFun (down2 _ _) x).trans ?_
    exact down_tile _ _ _ _ (o := 512) (by norm_num) (fun r q => acc_ld m c t h0 h1 (by norm_num) _ r q) (wsc1_ld m c t _) x (y 0) (y 1) hr hc
  · refine (congrFun (top_piece _ _ _ _ _ (by decide)) x).trans ?_
    refine (congrFun (down1 _ _) x).trans ?_
    exact down_tile _ _ _ _ (o := 256) (by norm_num) (fun r q => acc_ld m c t h0 h1 (by norm_num) _ r q) (wsc1_ld m c t _) x (y 0) (y 1) hr hc
  · refine (congrFun (top_piece _ _ _ _ _ (by decide)) x).trans ?_
    exact down_tile _ _ _ _ (o := 0) (by norm_num) (fun r q => acc_ld m c t h0 h1 (by norm_num) _ r q) (wsc1_ld m c t _) x (y 0) (y 1) hr hc

end Cert.FfIdeal.Norm

end
-- ==== Proof.FfHbm.lean ====
module
public import proofs.«01_k».proof.Proof.FfNorm
public import Idealize.ShloMosaic.Lib.Pipeline.FrameValue
public import Idealize.ShloMosaic.Lib.Claim

/-! The kernel's run with all four results named: the two that the body copies out itself are followed through the
last grid point, the two staged ones are as in the block-by-block account. -/

@[expose] public section

noncomputable section

set_option maxRecDepth 16384

namespace Cert.FfIdeal.Hbm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Quant Cert.FfMath Cert.FfIdeal Cert.FfIdeal.Gen Cert.FfIdeal.Tile Cert.FfIdeal.Blocks Cert.FfIdeal.Norm

local notation "𝕄" => MT nD τ sig Unit (Elt Ideal) ℕ (Pipeline.UD sig nD τ) ℕ

variable (m : (ℓ : Loc nD τ sig) → Buf (Elt Ideal) ℓ) (ρ : Dev nD → PrngReg)

/-- The first result after the run: the layer's output. -/
def fin0 (c : Dev nD) : Buf (Elt Ideal) ((c : Thread nD τ).loc main_v0_0) := fun i : S1536x2048.Idx =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- The second result after the run: the scaled down product. -/
def fin1 (c : Dev nD) : Buf (Elt Ideal) ((c : Thread nD τ).loc main_v0_1) := fun i : S1536x2048.Idx =>
  down (m ((c : Thread nD τ).loc main_arg0)) (m ((c : Thread nD τ).loc main_arg1)) (m ((c : Thread nD τ).loc main_arg2))
    (m ((c : Thread nD τ).loc main_arg3)) (i 0) (i 1)

/-- The last point leaves the output in the first result. -/
theorem out_at (c : Dev nD) (t : Fin cfg0.N) (h0 : ¬t.val % 16 = 0) (h1 : t.val % 16 = 15) (f1) (f2) (f3) (f) :
    (lastV m c t h0 h1).2.2.2.1 f1 f2 f3 f = fin0 m c :=
  funext fun y => out_last m c t h0 h1 f1 f2 f3 f y

/-- The last point leaves the scaled down product in the second result. -/
theorem down_at (c : Dev nD) (t : Fin cfg0.N) (h0 : ¬t.val % 16 = 0) (h1 : t.val % 16 = 15) (f1) (f2) (f3) (f) :
    (lastV m c t h0 h1).2.2.2.2.1 f1 f2 f3 f = fin1 m c :=
  funext fun y => down_last m c t h0 h1 f1 f2 f3 f y

/-- The buffers after the run, the two that the body writes itself at their results. -/
def fin (c : Dev nD) : (b : Ref sig .tc) → Buf (Elt Ideal) ((c.tc : Thread nD τ).loc b) :=
  Function.update (Function.update (V m c) main_v0_0 (fin0 m c)) main_v0_1 (fin1 m c)

/-- The two results held at what the run leaves in them, listed. -/
theorem routed_fin (c : Dev nD) :
    (Pipeline.routed R0 c (fin m c) : sProp 𝕄) = iprop(hbPt0 c hbM0_1 (fin0 m c) ∗ hbPt0 c hbM0_2 (fin1 m c)) := by
  unfold Pipeline.routed fin
  rw [BI.bigSep_eq_bigSepL_of_eq [main_v0_0, main_v0_1] (by decide) (by decide)]
  simp only [BI.bigSepL_cons_cons, BI.bigSepL_singleton, Function.update_self,
    Function.update_of_ne (show main_v0_0 ≠ main_v0_1 by decide)]
  rfl

/-- The invariant after the last point, conjunct by conjunct. -/
theorem PhiFin_eq (c : Dev nD) :
    (Pipeline.ΦDRG osem0 spec0 H0 R0 (V m) (fin m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg4)) ∗ iprop(hbPt0 c hbM0_1 (fin0 m c) ∗ hbPt0 c hbM0_2 (fin1 m c))) := by
  rw [Pipeline.ΦDRG_eq, scopedRest0_eq, ownSems00_eq, hbmPts0_eq, routed_fin]; simp only [scM0_0, scM0_1, scM0_2, scM0_3, owns_whole]; try rfl

/-- The invariant before position `n`: the generated one, but after the last point the two results are named. -/
def PhiV (c : Dev nD) (n : ℕ) (h : n ≤ cfg0.N) : sProp 𝕄 :=
  if n = 16 then Pipeline.ΦDRG osem0 spec0 H0 R0 (V m) (fin m) c else PhiS m c n h

/-- The generated proof data at this invariant. -/
def datsV (_ : Fin 1) (c : Dev nD) : Dat τ (Elt Ideal) Unit ℕ (Pipeline.UD sig nD τ) ℕ cfg0 c :=
  { dats m 0 c with Φ := fun t => PhiV m c t.val (Nat.le_of_lt_succ t.isLt) }

theorem datsV_succ (c : Dev nD) (t : Fin cfg0.N) : (datsV m 0 c).Φ t.succ = PhiV m c (t.val + 1) t.isLt := rfl

theorem datsV_castSucc (c : Dev nD) (t : Fin cfg0.N) : (datsV m 0 c).Φ t.castSucc = (dats m 0 c).Φ t.castSucc := by
  have := lt16 t
  refine (Dat.Φ_castSucc (PhiV m c) t).trans (Eq.trans ?_ (PhiS_castSucc m c t).symm)
  exact if_neg (by omega)

/-- What the body returns, at this invariant. -/
def postV (c : Dev nD) (t : Fin cfg0.N) : sProp 𝕄 :=
  iprop((datsV m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 9600000 in
/-- The body at the last point, the two results named after it. -/
theorem sound_last (c : Dev nD) (t : Fin cfg0.N) (h0 : ¬t.val % 16 = 0) (h1 : t.val % 16 = 15) :
    bodyPre m c t ⊢ wp frame (wpE (defs₀ (F := Ideal)) Variants.none c none) Set.univ (bodyAt0 t) (fun _ => postV m c t) := by
  have hN := lt16 t
  have hz : t.val ≠ 0 := by omega
  unfold bodyPre postV bodyAt0
  simp only [before0_0, before0_1, before0_2, before0_3, before0_4]
  rw [datsV_succ, show PhiV m c (t.val + 1) t.isLt = Pipeline.ΦDRG osem0 spec0 H0 R0 (V m) (fin m) c from if_pos (by omega), PhiFin_eq,
    after0_0, after0_1, after0_2, after0_3, after0_4, after0_5, after0_6]
  unfold Dat.owesAt Pipeline.owesWithin
  rw [show (dats m 0 c).owed t.castSucc = 0 from rfl, show (dats m 0 c).owed t.succ = 0 from rfl]
  rw [PhiS_castSucc m c t, PhiS_pos m c _ _ hz]
  rw [outsAt0_C m c t h0 h1]
  unfold out0_C_5 out0_C_6; (try dsimp only)
  iintro ⟨⟨⟨HS0, HS1, HS2, HS3⟩, Hg, ⟨Hq0, Hq1, Hq2⟩, Hh0, ⟨Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((lastV m c t h0 h1).2.2.2.2.2 W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, ⟨%e5, H5⟩, ⟨%e6, H6⟩, ⟨%es0, HS0⟩, HS1, HS2, HS3, Hq0, Hq1, Hq2, Hh0, ⟨%a1, %a2, %a3, %a4, Hh1⟩, ⟨%b1, %b2, %b3, %b4, Hh2⟩, ⟨%W', HW'⟩⟩
  isplitl [HS0 HS1 HS2 HS3 Hg Hq0 Hq1 Hq2 Hh0 Hh1 Hh2]
  · isplitl [HS0 HS1 HS2 HS3]
    · isplitl [HS0]
      · iexists _; unfold owns; iexists _; isplitr
        swap; · iexact HS0
        ipureintro; rfl
      isplitl [HS1]; · iexact HS1
      isplitl [HS2]; · iexact HS2
      iexact HS3
    isplitl [Hg]
    · iexact Hg
    isplitl [Hq0 Hq1 Hq2]
    · isplitl [Hq0]; · iexact Hq0
      isplitl [Hq1]; · iexact Hq1
      iexact Hq2
    isplitl [Hh0]
    · iexact Hh0
    isplitl [Hh1]
    · rw [← out_at m c t h0 h1 a1 a2 a3 a4]; iexact Hh1
    rw [← down_at m c t h0 h1 b1 b2 b3 b4]; iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    rw [(last_pieces m c t h0 h1).1]
    exact View.read_writes_of_cover _ _ _ _ _ (cover0_C_5 c _ _ _ _ _ _ _ _ _ _ _ _ _ _ _ _ _ _ _ _ _ _ _ _ _ _ _ _ _ _ _ _)
  unfold owns; iexists _; isplitr
  swap; · iexact H6
  ipureintro
  rw [(last_pieces m c t h0 h1).2.1]
  exact View.read_writes_of_cover _ _ _ _ _ (cover0_C_6 c _ _ _ _ _ _ _ _ _ _ _ _ _ _ _ _ _ _ _ _ _ _ _ _ _ _ _ _ _ _ _ _)

/-- The body at any point. -/
theorem sound_V (c : Dev nD) (t : Fin cfg0.N) :
    bodyPre m c t ⊢ wp frame (wpE (defs₀ (F := Ideal)) Variants.none c none) Set.univ (bodyAt0 t) (fun _ => postV m c t) := by
  have hN := lt16 t
  by_cases h1 : t.val % 16 = 15
  · exact sound_last m c t (by omega) h1
  · have e : postV m c t = bodyPost m c t := by
      unfold postV bodyPost
      rw [datsV_succ, show PhiV m c (t.val + 1) t.isLt = PhiS m c (t.val + 1) t.isLt from if_neg (by omega)]
      rfl
    rw [e]
    exact sound_body m c t

theorem body_obligation (c : Dev nD) : BodyObligation (datsV m 0 c) (defs₀ (F := Ideal)) Variants.none () Set.univ := fun t => by
  rw [bigSep_W0, bigSep_W0, defs₀_row, datsV_castSucc]
  exact triple_restated (sound_V m c t) rfl .rfl fun _ => .rfl

/-- What the launch hands the region is the invariant before the first point. -/
theorem hin (c : Dev nD) : Pipeline.ΦDRG osem0 spec0 H0 R0 (V m) (V m) c ⊢ (datsV m 0 c).Φ 0 := by
  refine (Pipeline.ΦDRG_ΦDR osem0 spec0 H0 R0 (V m) (V m) c).trans ?_
  rw [show (datsV m 0 c).Φ 0 = PhiS m c 0 (Nat.zero_le _) from rfl, PhiS_zero m c 0 _ rfl]

/-- After the last point the invariant names the two results. -/
theorem hout (c : Dev nD) : (datsV m 0 c).Φ (Fin.last cfg0.N) ⊢ Pipeline.ΦDRG osem0 spec0 H0 R0 (V m) (fin m) c := by
  rw [show (datsV m 0 c).Φ (Fin.last cfg0.N) = PhiV m c cfg0.N le_rfl from rfl,
    show PhiV m c cfg0.N le_rfl = Pipeline.ΦDRG osem0 spec0 H0 R0 (V m) (fin m) c from if_pos N_0]

set_option backward.isDefEq.respectTransparency.types false in
/-- The run, the two results named and every counter at zero. -/
theorem run_main : θ_run defs (onTc (τ := τ) (main (F := Ideal))) (s₀ m ρ) (Pipeline.FramePostRG cfgs (datsV m) 0 R0 (V m) (fin m)) :=
  Pipeline.θ_run_frame_dmaRG (Q' := _) cfgs (datsV m) (0 : Fin 1) launch0 osem0 defs₀ Variants.none ownSemFacts0 H0 R0 H0_sub R0_sub m ρ main
    (hbody := fun c => (body_obligation m c).loose) (hshare := fun c => (datsV m 0 c).share_full fun _ => rfl)
    (howed := fun _ _ => rfl) (V := V m) (hmain := hmain m Variants.none) (hA := A_eq m) (G := fin m)
    (hin := hin m) (hout := hout m)

/-- The run's post is the generated one's, the proof data differing in the invariant only. -/
theorem post_gen (r : PUnit × MemSt nD τ sig (Elt Ideal)) (h : Pipeline.FramePostR cfgs (datsV m) 0 R0 (V m) r) :
    Pipeline.FramePostR cfgs (dats m) 0 R0 (V m) r := h

/-- The run with all four results named, the arguments unchanged. -/
theorem run_all : θ_run defs (onTc (τ := τ) (main (F := Ideal))) ⟨m, fun _ => 0, ρ⟩ fun r => ∀ c : Dev nD,
      r.2.mem ((c : Thread nD τ).loc main_v0_0) = fin0 m c
      ∧ r.2.mem ((c : Thread nD τ).loc main_v0_1) = fin1 m c
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    have g := post_gen m r h.toR
    refine ⟨(h.written c (b := main_v0_0) (by decide)).trans ?_, (h.written c (b := main_v0_1) (by decide)).trans ?_,
      Value.post5 m r g c, Value.post6 m r g c, Value.kept_main_arg0 m r g c, Value.kept_main_arg1 m r g c,
      Value.kept_main_arg2 m r g c, Value.kept_main_arg3 m r g c, Value.kept_main_arg4 m r g c, Value.kept_main_arg5 m r g c⟩
    · exact (Function.update_of_ne (show main_v0_0 ≠ main_v0_1 by decide) _ _).trans (Function.update_self _ _ _)
    · exact Function.update_self _ _ _)
    (run_main m ρ)

end Cert.FfIdeal.Hbm

end
-- ==== Proof.OpMath.lean ====
module
public import proofs.«01_k».proof.Proof.FfMath

/-! The attention output projection as functions of whole arrays of extended reals. -/

@[expose] public section

noncomputable section

namespace Cert.OpMath

open Idealize.ShloMosaic Cert.Quant Cert.FfMath

variable (ow : (⟨2, ![1536, 2048]⟩ : Shape).Idx → EReal) (w : (⟨2, ![2048, 2048]⟩ : Shape).Idx → EReal)
  (wsc : (⟨1, ![1]⟩ : Shape).Idx → EReal) (x : (⟨2, ![1536, 2048]⟩ : Shape).Idx → EReal)
  (nw : (⟨2, ![1, 2048]⟩ : Shape).Idx → EReal)

/-- The scaled projection of token `i` at column `q`. -/
def ha (i : Fin 1536) (q : Fin 2048) : EReal :=
  (∑ k : Fin 2048, ow (ix2 i k) * w (ix2 k q)) * wsc (ix1 0)

/-- The residual stream after the normalised projection is added. -/
def h1 (i : Fin 1536) (q : Fin 2048) : EReal :=
  x (ix2 i q) + ha ow w wsc i q * rms (fun k : Fin 2048 => ha ow w wsc i k) * nw (ix2 0 q)

/-- The block exponents, by block and token. -/
def expo (b : Fin 64) (i : Fin 1536) : EReal :=
  rExp fun k : Fin 32 => h1 ow w wsc x nw i ⟨b.val * 32 + k.val, by omega⟩

/-- The codes. -/
def codes (i : Fin 1536) (q : Fin 2048) : EReal :=
  clip (h1 ow w wsc x nw i q * Ideal.exp2 (0 - expo ow w wsc x nw ⟨q.val / 32, by omega⟩ i))

/-- The block scales, by block and token. -/
def scales (b : Fin 64) (i : Fin 1536) : EReal := Ideal.exp2 (expo ow w wsc x nw b i)

/-- The block scales as laid out: slab of 512 tokens, block, place in the slab. -/
def slabs (g : Fin 3) (b : Fin 64) (j : Fin 512) : EReal := scales ow w wsc x nw b ⟨g.val * 512 + j.val, by omega⟩

/-- A code widened by its block's scale. -/
def wide (i : Fin 1536) (q : Fin 2048) : EReal :=
  codes ow w wsc x nw i q * scales ow w wsc x nw ⟨q.val / 32, by omega⟩ i

end Cert.OpMath

end
-- ==== Proof.OpBlocks.lean ====
module
public import proofs.«01_k».proof.Proof.OpMath
public import proofs.«01_k».proof.Proof.Gen.OpIdeal.Value
public import Idealize.ShloMosaic.Lib.Pipeline.ReadBack

/-! What the output projection's five results hold after the run, entry by entry. -/

@[expose] public section

noncomputable section

set_option maxRecDepth 16384

namespace Cert.OpIdeal.Blocks

open Idealize.ShloMosaic Cert.Quant Cert.OpMath Cert.OpIdeal Cert.OpIdeal.Gen
open Idealize.ShloMosaic.TcCoe
open Cert.FfMath (rms)

section payloads
variable (a : Vec Ideal S256x2048 .bf16) (w : Vec Ideal S2048x2048 .fp8e4m3) (s : Elt Ideal .f32)
  (h : Vec Ideal S256x2048 .bf16) (n : Vec Ideal S1x2048 .f32)

/-- A tile's scaled product. -/
theorem pay5_apply (r : Fin 256) (q : Fin 2048) : k0_pay5 a w s (ix2 r q)
    = (∑ k : Fin 2048, a (ix2 r k) * w (ix2 k q)) * s := by
  pointwise [k0_pay5]

/-- A tile's scaled product, as stored. -/
theorem pay6_apply (y : S256x2048.Idx) : k0_pay6 a w s y = k0_pay5 a w s y := by
  unfold k0_pay6
  generalize k0_pay5 a w s = z
  as_aux_lemma => rfl

/-- A tile's residual rows. -/
theorem pay7_apply (r : Fin 256) (q : Fin 2048) : k0_pay7 a w s h n (ix2 r q)
    = h (ix2 r q) + k0_pay5 a w s (ix2 r q) * rms (fun k => k0_pay5 a w s (ix2 r k)) * n (ix2 0 q) := by
  unfold k0_pay7 rms
  generalize k0_pay5 a w s = z
  pointwise

/-- A tile's block scales. -/
theorem pay1_apply (b : Fin 64) (r : Fin 256) : k0_pay1 (k0_pay8 a w s h n) (ix2 b r)
    = Ideal.exp2 (rExp fun k : Fin 32 => k0_pay7 a w s h n (ix2 r ⟨b.val * 32 + k.val, by omega⟩)) := by
  rw [← kScale_eq (by norm_num)]
  unfold k0_pay8
  generalize k0_pay7 a w s h n = z
  pointwise [k0_pay1]
  rfl

/-- A tile's block scales, as stored. -/
theorem pay4_apply (v : FVec Ideal S64x32x256 .f32) (b : Fin 64) (r : Fin 256) :
    k0_pay4 v (ix3 0 b r) = k0_pay1 v (ix2 b r) := by
  unfold k0_pay4
  generalize k0_pay1 v = z
  pointwise

/-- A tile's codes. -/
theorem pay2_apply (r : Fin 256) (q : Fin 2048) : k0_pay2 (k0_pay7 a w s h n) (k0_pay8 a w s h n) (ix2 r q)
    = clip (k0_pay7 a w s h n (ix2 r q)
        * Ideal.exp2 (0 - rExp fun k : Fin 32 => k0_pay7 a w s h n (ix2 r ⟨q.val / 32 * 32 + k.val, by omega⟩))) := by
  rw [← div_kScale (by norm_num)]
  unfold k0_pay8
  generalize k0_pay7 a w s h n = z
  pointwise [k0_pay2, k0_pay1]
  rfl

/-- A tile's widened codes. -/
theorem pay3_apply (z : FVec Ideal S256x2048 .f32) (v : FVec Ideal S64x32x256 .f32) (r : Fin 256) (q : Fin 2048) :
    k0_pay3 z v (ix2 r q) = k0_pay2 z v (ix2 r q) * k0_pay1 v (ix2 ⟨q.val / 32, by omega⟩ r) := by
  unfold k0_pay3
  generalize k0_pay2 z v = c
  generalize k0_pay1 v = e
  pointwise

end payloads

section closed
variable (ow : S1536x2048.Idx → EReal) (W : S2048x2048.Idx → EReal) (wsc : S1.Idx → EReal) (x : S1536x2048.Idx → EReal)
  (nw : S1x2048.Idx → EReal)
variable {a : Vec Ideal S256x2048 .bf16} {w : Vec Ideal S2048x2048 .fp8e4m3} {s : Elt Ideal .f32}
  {h : Vec Ideal S256x2048 .bf16} {n : Vec Ideal S1x2048 .f32} {t : ℕ} (ht : t < 6)
  (hw : ∀ k q, w (ix2 k q) = W (ix2 k q)) (hs : s = wsc (ix1 0))
  (ha' : ∀ (r : Fin 256) q, a (ix2 r q) = ow (ix2 ⟨t * 256 + r.val, by omega⟩ q))
include hw hs ha'

theorem ha_of (r : Fin 256) (q : Fin 2048) : k0_pay5 a w s (ix2 r q) = ha ow W wsc ⟨t * 256 + r.val, by omega⟩ q := by
  rw [pay5_apply]
  simp only [hw, ha', hs]
  rfl

variable (hh : ∀ (r : Fin 256) q, h (ix2 r q) = x (ix2 ⟨t * 256 + r.val, by omega⟩ q))
  (hn : ∀ q, n (ix2 0 q) = nw (ix2 0 q))
include hh hn

theorem h1_of (r : Fin 256) (q : Fin 2048) : k0_pay7 a w s h n (ix2 r q)
    = h1 ow W wsc x nw ⟨t * 256 + r.val, by omega⟩ q := by
  rw [pay7_apply, hh, hn, h1]
  simp only [ha_of ow W wsc ht hw hs ha']

theorem exp_of (b : Fin 64) (r : Fin 256) :
    (rExp fun k : Fin 32 => k0_pay7 a w s h n (ix2 r ⟨b.val * 32 + k.val, by omega⟩))
      = expo ow W wsc x nw b ⟨t * 256 + r.val, by omega⟩ := by
  rw [expo]
  congr 1
  funext k
  exact h1_of ow W wsc x nw ht hw hs ha' hh hn r _

theorem scales_of (b : Fin 64) (r : Fin 256) : k0_pay1 (k0_pay8 a w s h n) (ix2 b r)
    = scales ow W wsc x nw b ⟨t * 256 + r.val, by omega⟩ := by
  rw [pay1_apply, exp_of ow W wsc x nw ht hw hs ha' hh hn, scales]

theorem codes_of (r : Fin 256) (q : Fin 2048) : k0_pay2 (k0_pay7 a w s h n) (k0_pay8 a w s h n) (ix2 r q)
    = codes ow W wsc x nw ⟨t * 256 + r.val, by omega⟩ q := by
  rw [pay2_apply, h1_of ow W wsc x nw ht hw hs ha' hh hn, exp_of ow W wsc x nw ht hw hs ha' hh hn ⟨q.val / 32, by omega⟩, codes]

theorem wide_of (r : Fin 256) (q : Fin 2048) : k0_pay3 (k0_pay7 a w s h n) (k0_pay8 a w s h n) (ix2 r q)
    = wide ow W wsc x nw ⟨t * 256 + r.val, by omega⟩ q := by
  rw [pay3_apply, codes_of ow W wsc x nw ht hw hs ha' hh hn, scales_of ow W wsc x nw ht hw hs ha' hh hn, wide]

end closed

variable (m : (ℓ : Loc nD τ sig) → Buf (Elt Ideal) ℓ) (c : Dev nD)

/-- Where the windows of point `t` lie. -/
theorem idx : ∀ t : Fin cfg0.N, win0_0.index t = ![0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![t.val / 2, 0, t.val % 2] ∧ win0_9.index t = ![t.val, 0] := by
  decide +kernel

theorem lt6 (t : Fin cfg0.N) : t.val < 6 := t.isLt

/-- The attention rows' block. -/
theorem ow_blk (t : Fin cfg0.N) (r : Fin 256) (q : Fin 2048) : iblk m c 1 t (ix2 r q)
    = m ((c : Thread nD τ).loc main_arg0) (ix2 ⟨t.val * 256 + r.val, by have := lt6 t; omega⟩ q) := by
  blk_ext [iblk, V, idx t]

/-- The projection weights' block. -/
theorem w_blk (t : Fin cfg0.N) (k : Fin 2048) (q : Fin 2048) : iblk m c 2 t (ix2 k q)
    = m ((c : Thread nD τ).loc main_arg1) (ix2 k q) := by
  blk_ext [iblk, V, idx t]

/-- The factor's block. -/
theorem wsc_blk (t : Fin cfg0.N) (i : S1.Idx) : iblk m c 0 t i = m ((c : Thread nD τ).loc main_arg2) (ix1 0) := by
  obtain rfl : i = ix1 0 := (eq_ix1 i).trans (congrArg ix1 (Subsingleton.elim _ _))
  blk_ext [iblk, V, idx t]

/-- The residual rows' block. -/
theorem x_blk (t : Fin cfg0.N) (r : Fin 256) (q : Fin 2048) : iblk m c 3 t (ix2 r q)
    = m ((c : Thread nD τ).loc main_arg3) (ix2 ⟨t.val * 256 + r.val, by have := lt6 t; omega⟩ q) := by
  blk_ext [iblk, V, idx t]

/-- The norm weights' block. -/
theorem nw_blk (t : Fin cfg0.N) (q : Fin 2048) : iblk m c 4 t (ix2 0 q)
    = m ((c : Thread nD τ).loc main_arg4) (ix2 0 q) := by
  blk_ext [iblk, V, idx t]

/-! Where a point's results go. -/

theorem emb5 (t : Fin cfg0.N) (r : Fin 256) (q : Fin 2048) :
    (win0_5.blk t).view.emb (ix2 r q) = ix2 ⟨t.val * 256 + r.val, by have := lt6 t; omega⟩ q := by
  blk_ext [idx t]

theorem emb6 (t : Fin cfg0.N) (r : Fin 256) (q : Fin 2048) :
    (win0_6.blk t).view.emb (ix2 r q) = ix2 ⟨t.val * 256 + r.val, by have := lt6 t; omega⟩ q := by
  blk_ext [idx t]

theorem emb7 (t : Fin cfg0.N) (r : Fin 256) (q : Fin 2048) :
    (win0_7.blk t).view.emb (ix2 r q) = ix2 ⟨t.val * 256 + r.val, by have := lt6 t; omega⟩ q := by
  blk_ext [idx t]

theorem emb8 (t : Fin cfg0.N) (b : Fin 64) (r : Fin 256) :
    (win0_8.blk t).view.emb (ix3 0 b r)
      = ix3 ⟨t.val / 2, by have := lt6 t; omega⟩ b ⟨t.val % 2 * 256 + r.val, by omega⟩ := by
  blk_ext [idx t]

theorem emb9 (t : Fin cfg0.N) (r : Fin 256) (q : Fin 2048) :
    (win0_9.blk t).view.emb (ix2 r q) = ix2 ⟨t.val * 256 + r.val, by have := lt6 t; omega⟩ q := by
  blk_ext [idx t]

/-- The token that block column `t % 2 * 256 + r` of slab `t / 2` stands for. -/
theorem token_of {t : ℕ} (ht : t < 6) (r : Fin 256) :
    (⟨(⟨t / 2, by omega⟩ : Fin 3).val * 512 + (⟨t % 2 * 256 + r.val, by omega⟩ : Fin 512).val, by simp only []; omega⟩ : Fin 1536)
      = ⟨t * 256 + r.val, by omega⟩ := Fin.ext (by simp only []; omega)

/-- The projection that point `t` leaves. -/
theorem ha_after (t : Fin cfg0.N) (r : Fin 256) (q : Fin 2048) : (dats m 0 c).after 5 t (ix2 r q)
    = ha (m (c.tc.loc main_arg0)) (m (c.tc.loc main_arg1)) (m (c.tc.loc main_arg2))
      ⟨t.val * 256 + r.val, by have := lt6 t; omega⟩ q := by
  rw [after0_5]
  generalize hG : ha _ _ _ _ _ = G
  unfold outsAt0
  dsimp only
  frame_out
  rw [← hG]
  exact (pay6_apply _ _ _ _).trans (ha_of _ _ _ (lt6 t) (w_blk m c t) (wsc_blk m c t _) (ow_blk m c t) r q)

/-- The projection after the run. -/
theorem ha_eq : (dats m 0 c).arrAt 5 cfg0.N = fun i => ha (m ((c : Thread nD τ).loc main_arg0))
    (m ((c : Thread nD τ).loc main_arg1)) (m ((c : Thread nD τ).loc main_arg2)) (i 0) (i 1) := by
  refine (dats m 0 c).arrAt_eq_of_covers 5 _ (by decide +kernel) fun t hf y => ?_
  blk_simp
  change S256x2048.Idx at y
  obtain ⟨r, q, rfl⟩ : ∃ r q, y = ix2 r q := ⟨y 0, y 1, eq_ix2 y⟩
  rw [emb5]
  exact ha_after m c t r q

/-- The residual stream after the run. -/
theorem h1_eq : (dats m 0 c).arrAt 6 cfg0.N = fun i => h1 (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) := by
  refine (dats m 0 c).arrAt_eq_of_covers 6 _ (by decide +kernel) fun t hf y => ?_
  blk_simp
  change S256x2048.Idx at y
  obtain ⟨r, q, rfl⟩ : ∃ r q, y = ix2 r q := ⟨y 0, y 1, eq_ix2 y⟩
  rw [emb6, after0_6]
  frame_out
  exact h1_of _ _ _ _ _ (lt6 t) (w_blk m c t) (wsc_blk m c t _) (ow_blk m c t) (x_blk m c t) (nw_blk m c t) r q

/-- The codes after the run. -/
theorem codes_eq : (dats m 0 c).arrAt 7 cfg0.N = fun i => codes (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) := by
  refine (dats m 0 c).arrAt_eq_of_covers 7 _ (by decide +kernel) fun t hf y => ?_
  blk_simp
  change S256x2048.Idx at y
  obtain ⟨r, q, rfl⟩ : ∃ r q, y = ix2 r q := ⟨y 0, y 1, eq_ix2 y⟩
  rw [emb7, after0_7]
  frame_out
  exact codes_of _ _ _ _ _ (lt6 t) (w_blk m c t) (wsc_blk m c t _) (ow_blk m c t) (x_blk m c t) (nw_blk m c t) r q

/-- The scales after the run: slab, block, and place in the slab. -/
theorem scales_eq : (dats m 0 c).arrAt 8 cfg0.N = fun i => slabs (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) (i 2) := by
  refine (dats m 0 c).arrAt_eq_of_covers 8 _ (by decide +kernel) fun t hf y => ?_
  blk_simp
  change S1x64x256.Idx at y
  obtain ⟨b, r, rfl⟩ : ∃ b r, y = ix3 0 b r := ⟨y 1, y 2, (eq_ix3 y).trans (congrArg (ix3 · _ _) (Subsingleton.elim (α := Fin 1) _ _))⟩
  rw [emb8, after0_8]
  frame_out
  rw [pay4_apply]
  exact (scales_of _ _ _ _ _ (lt6 t) (w_blk m c t) (wsc_blk m c t _) (ow_blk m c t) (x_blk m c t) (nw_blk m c t) b r).trans
    (congrArg (scales _ _ _ _ _ b) (token_of (lt6 t) r).symm)

/-- The widened codes after the run. -/
theorem wide_eq : (dats m 0 c).arrAt 9 cfg0.N = fun i => wide (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) := by
  refine (dats m 0 c).arrAt_eq_of_covers 9 _ (by decide +kernel) fun t hf y => ?_
  blk_simp
  change S256x2048.Idx at y
  obtain ⟨r, q, rfl⟩ : ∃ r q, y = ix2 r q := ⟨y 0, y 1, eq_ix2 y⟩
  rw [emb9, after0_9]
  frame_out
  exact wide_of _ _ _ _ _ (lt6 t) (w_blk m c t) (wsc_blk m c t _) (ow_blk m c t) (x_blk m c t) (nw_blk m c t) r q

end Cert.OpIdeal.Blocks

end
-- ==== Proof.OpRefTile.lean ====
module
public import proofs.«01_k».proof.Proof.OpMath
public import proofs.«01_k».proof.Proof.Gen.OpRefIdeal.Skeleton

/-! The output projection reference's operations, entry by entry. -/

@[expose] public section

noncomputable section

set_option maxRecDepth 16384

namespace Cert.OpRefIdeal.RefValue

open Idealize.ShloMosaic Cert.Quant Cert.OpMath Cert.OpRefIdeal Cert.OpRefIdeal.Gen
open Cert.FfMath (rms)

section payloads
variable (a : Vec Ideal S1536x2048 .bf16) (w : Vec Ideal S2048x2048 .fp8e4m3) (s : Elt Ideal .f32)
  (h : Vec Ideal S1536x2048 .bf16) (n : Vec Ideal S1x2048 .f32)

/-- The scaled product. -/
theorem pay7_apply (r : Fin 1536) (q : Fin 2048) : k0_pay7 a w s (ix2 r q)
    = (∑ k : Fin 2048, a (ix2 r k) * w (ix2 k q)) * s := by
  pointwise [k0_pay7]

/-- The scaled product, as stored. -/
theorem pay8_apply (y : S1536x2048.Idx) : k0_pay8 a w s y = k0_pay7 a w s y := by
  unfold k0_pay8
  generalize k0_pay7 a w s = z
  as_aux_lemma => rfl

/-- The residual stream. -/
theorem pay9_apply (r : Fin 1536) (q : Fin 2048) : k0_pay9 a w s h n (ix2 r q)
    = h (ix2 r q) + k0_pay7 a w s (ix2 r q) * rms (fun k => k0_pay7 a w s (ix2 r k)) * n (ix2 0 q) := by
  unfold k0_pay9 rms
  generalize k0_pay7 a w s = z
  pointwise

/-- The residual stream by block, place in the block, token. -/
theorem pay10_apply (b : Fin 64) (k : Fin 32) (r : Fin 1536) : k0_pay10 a w s h n (ix3 b k r)
    = k0_pay9 a w s h n (ix2 r ⟨b.val * 32 + k.val, by omega⟩) := by
  unfold k0_pay10
  generalize k0_pay9 a w s h n = z
  pointwise

/-- The largest magnitude of a block of any array. -/
theorem topMag (v : FVec Ideal S64x32x1536 .f32) (b : Fin 64) (r : Fin 1536) :
    multiReduction .maximumf [1] S64x1536 (absf v) 0xFF800000#32 reduces_S64x32x1536_S64x1536 (.inl rfl) rfl (ix2 b r)
      = top fun k : Fin 32 => mag (v (ix3 b k r)) := by
  pointwise
  rfl

/-- The largest magnitude of a block. -/
theorem pay11_apply (b : Fin 64) (r : Fin 1536) : k0_pay11 a w s h n (ix2 b r)
    = top fun k : Fin 32 => mag (k0_pay10 a w s h n (ix3 b k r)) := by
  unfold k0_pay11
  exact topMag _ b r

/-- The block exponent from the largest magnitude. -/
theorem expOf (z : FVec Ideal S64x1536 .f32) (y : S64x1536.Idx) :
    k0_pay1 (cmpf .oeq z (broadcast S64x1536 (Scalar.ofBits .f32 0x00000000#32)))
      (mulf (log (mulf z (broadcast S64x1536 (Scalar.ofBits .f32 0x3B124925#32))))
        (broadcast S64x1536 (Named.named κ "log2e" 0x3FB8AA3B#32))) y
      = if z y = 0 then 0 else ex (z y) + 1 := by
  unfold k0_pay1
  pointwise
  rfl

/-- The block exponent. -/
theorem pay1_apply (b : Fin 64) (r : Fin 1536) : k0_pay1 (k0_pay12 a w s h n) (k0_pay13 a w s h n) (ix2 b r)
    = rExp fun k : Fin 32 => k0_pay10 a w s h n (ix3 b k r) := by
  rw [rExp, ← pay11_apply]
  unfold k0_pay12 k0_pay13
  exact expOf _ (ix2 b r)

end payloads

section stored
variable (v : FVec Ideal S64x32x1536 .f32) (i : IVec S64x1536 1) (e : FVec Ideal S64x1536 .f32)

/-- The block scale. -/
theorem pay2_apply (y : S64x1536.Idx) : k0_pay2 i e y = Ideal.exp2 (k0_pay1 i e y) := by
  unfold k0_pay2
  generalize k0_pay1 i e = z
  as_aux_lemma => rfl

/-- The codes by block, place in the block, token. -/
theorem pay3_apply (b : Fin 64) (k : Fin 32) (r : Fin 1536) : k0_pay3 v i e (ix3 b k r)
    = clip (v (ix3 b k r) * Ideal.exp2 (0 - k0_pay1 i e (ix2 b r))) := by
  unfold k0_pay3
  generalize k0_pay1 i e = z
  as_aux_lemma =>
    pointwise
    rfl

/-- The codes as stored. -/
theorem pay4_apply (r : Fin 1536) (q : Fin 2048) : k0_pay4 v i e (ix2 r q)
    = k0_pay3 v i e (ix3 ⟨q.val / 32, by omega⟩ ⟨q.val % 32, by omega⟩ r) := by
  unfold k0_pay4
  generalize k0_pay3 v i e = z
  pointwise

/-- The scales as stored: slab, block, and place in the slab. -/
theorem pay5_apply (g : Fin 3) (b : Fin 64) (j : Fin 512) : k0_pay5 i e (ix3 g b j)
    = k0_pay2 i e (ix2 b ⟨g.val * 512 + j.val, by omega⟩) := by
  unfold k0_pay5
  generalize k0_pay2 i e = z
  pointwise

/-- The widened codes as stored. -/
theorem pay6_apply (r : Fin 1536) (q : Fin 2048) : k0_pay6 v i e (ix2 r q)
    = k0_pay4 v i e (ix2 r q) * k0_pay2 i e (ix2 ⟨q.val / 32, by omega⟩ r) := by
  rw [pay4_apply]
  unfold k0_pay6
  generalize k0_pay3 v i e = z
  generalize k0_pay2 i e = z'
  pointwise

end stored

section closed
variable (ow : S1536x2048.Idx → EReal) (W : S2048x2048.Idx → EReal) (wsc : S1.Idx → EReal) (x : S1536x2048.Idx → EReal)
  (nw : S1x2048.Idx → EReal)
variable {a : Vec Ideal S1536x2048 .bf16} {w : Vec Ideal S2048x2048 .fp8e4m3} {s : Elt Ideal .f32}
  {h : Vec Ideal S1536x2048 .bf16} {n : Vec Ideal S1x2048 .f32}
  (hw : ∀ k q, w (ix2 k q) = W (ix2 k q)) (hs : s = wsc (ix1 0)) (ha' : ∀ r q, a (ix2 r q) = ow (ix2 r q))
include hw hs ha'

theorem ha_of (r : Fin 1536) (q : Fin 2048) : k0_pay7 a w s (ix2 r q) = ha ow W wsc r q := by
  rw [pay7_apply]
  simp only [hw, ha', hs]
  rfl

variable (hh : ∀ r q, h (ix2 r q) = x (ix2 r q)) (hn : ∀ q, n (ix2 0 q) = nw (ix2 0 q))
include hh hn

theorem h1_of (r : Fin 1536) (q : Fin 2048) : k0_pay9 a w s h n (ix2 r q) = h1 ow W wsc x nw r q := by
  rw [pay9_apply, hh, hn, h1]
  simp only [ha_of ow W wsc hw hs ha']

theorem exp_of (b : Fin 64) (r : Fin 1536) : k0_pay1 (k0_pay12 a w s h n) (k0_pay13 a w s h n) (ix2 b r)
    = expo ow W wsc x nw b r := by
  rw [pay1_apply, expo]
  congr 1
  funext k
  rw [pay10_apply, h1_of ow W wsc x nw hw hs ha' hh hn]

theorem scales_of (b : Fin 64) (r : Fin 1536) : k0_pay2 (k0_pay12 a w s h n) (k0_pay13 a w s h n) (ix2 b r)
    = scales ow W wsc x nw b r := by
  rw [pay2_apply, exp_of ow W wsc x nw hw hs ha' hh hn, scales]

theorem codes_of (r : Fin 1536) (q : Fin 2048) :
    k0_pay4 (k0_pay10 a w s h n) (k0_pay12 a w s h n) (k0_pay13 a w s h n) (ix2 r q) = codes ow W wsc x nw r q := by
  rw [pay4_apply, pay3_apply, pay10_apply, exp_of ow W wsc x nw hw hs ha' hh hn, h1_of ow W wsc x nw hw hs ha' hh hn, codes]
  congr 3
  exact Fin.ext (Nat.div_add_mod' _ _)

theorem slabs_of (g : Fin 3) (b : Fin 64) (j : Fin 512) : k0_pay5 (k0_pay12 a w s h n) (k0_pay13 a w s h n) (ix3 g b j)
    = slabs ow W wsc x nw g b j := by
  rw [pay5_apply, scales_of ow W wsc x nw hw hs ha' hh hn, slabs]

theorem wide_of (r : Fin 1536) (q : Fin 2048) :
    k0_pay6 (k0_pay10 a w s h n) (k0_pay12 a w s h n) (k0_pay13 a w s h n) (ix2 r q) = wide ow W wsc x nw r q := by
  rw [pay6_apply, codes_of ow W wsc x nw hw hs ha' hh hn, scales_of ow W wsc x nw hw hs ha' hh hn, wide]

end closed

end Cert.OpRefIdeal.RefValue

end
-- ==== Proof.OpRefValue.lean ====
module
public import proofs.«01_k».proof.Proof.OpRefTile
public import proofs.«01_k».proof.Proof.Gen.OpRefIdeal.Value
public import Idealize.ShloMosaic.Lib.Pipeline.ReadBack

/-! What the output projection reference's five results hold, entry by entry. -/

@[expose] public section

noncomputable section

set_option maxRecDepth 16384

namespace Cert.OpRefIdeal.RefValue

open Idealize.ShloMosaic Cert.Quant Cert.OpMath Cert.OpRefIdeal Cert.OpRefIdeal.Gen
open Idealize.ShloMosaic.TcCoe

variable (m : (ℓ : Loc nD τ sig) → Buf (Elt Ideal) ℓ) (c : Dev nD)

/-- The windows hold whole arrays. -/
theorem idx : ∀ t : Fin cfg0.N, win0_0.index t = ![0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0, 0] ∧ win0_9.index t = ![0, 0] := by
  decide +kernel

/-- The attention rows' block. -/
theorem ow_blk (t : Fin cfg0.N) (r : Fin 1536) (q : Fin 2048) :
    iblk m c 1 t (ix2 r q) = m ((c : Thread nD τ).loc main_arg0) (ix2 r q) := by
  blk_ext [iblk, V, idx t]

/-- The projection weights' block. -/
theorem w_blk (t : Fin cfg0.N) (k : Fin 2048) (q : Fin 2048) :
    iblk m c 2 t (ix2 k q) = m ((c : Thread nD τ).loc main_arg1) (ix2 k q) := by
  blk_ext [iblk, V, idx t]

/-- The factor's block. -/
theorem wsc_blk (t : Fin cfg0.N) (i : S1.Idx) : iblk m c 0 t i = m ((c : Thread nD τ).loc main_arg2) (ix1 0) := by
  obtain rfl : i = ix1 0 := (eq_ix1 i).trans (congrArg ix1 (Subsingleton.elim _ _))
  blk_ext [iblk, V, idx t]

/-- The residual rows' block. -/
theorem x_blk (t : Fin cfg0.N) (r : Fin 1536) (q : Fin 2048) :
    iblk m c 3 t (ix2 r q) = m ((c : Thread nD τ).loc main_arg3) (ix2 r q) := by
  blk_ext [iblk, V, idx t]

/-- The norm weights' block. -/
theorem nw_blk (t : Fin cfg0.N) (q : Fin 2048) :
    iblk m c 4 t (ix2 0 q) = m ((c : Thread nD τ).loc main_arg4) (ix2 0 q) := by
  blk_ext [iblk, V, idx t]

theorem emb5 (t : Fin cfg0.N) (y : S1536x2048.Idx) : (win0_5.blk t).view.emb y = y := by
  blk_ext [idx t]

theorem emb6 (t : Fin cfg0.N) (y : S1536x2048.Idx) : (win0_6.blk t).view.emb y = y := by
  blk_ext [idx t]

theorem emb7 (t : Fin cfg0.N) (y : S1536x2048.Idx) : (win0_7.blk t).view.emb y = y := by
  blk_ext [idx t]

theorem emb8 (t : Fin cfg0.N) (y : S3x64x512.Idx) : (win0_8.blk t).view.emb y = y := by
  blk_ext [idx t]

theorem emb9 (t : Fin cfg0.N) (y : S1536x2048.Idx) : (win0_9.blk t).view.emb y = y := by
  blk_ext [idx t]

/-- What the one grid point leaves in window 5. -/
theorem ha_after (t : Fin cfg0.N) (r : Fin 1536) (q : Fin 2048) : (dats m 0 c).after 5 t (ix2 r q)
    = ha (m (c.tc.loc main_arg0)) (m (c.tc.loc main_arg1)) (m (c.tc.loc main_arg2)) r q := by
  rw [after0_5]
  generalize hG : ha _ _ _ _ _ = G
  unfold outsAt0
  dsimp only
  frame_out
  simp only [read_unread_whole]
  rw [← hG]
  exact (pay8_apply _ _ _ _).trans (ha_of _ _ _ (w_blk m c t) (wsc_blk m c t _) (ow_blk m c t) r q)

/-- The reference's projection is the closed form's. -/
theorem ha_eq : (dats m 0 c).arrAt 5 cfg0.N = fun i => ha (m ((c : Thread nD τ).loc main_arg0))
    (m ((c : Thread nD τ).loc main_arg1)) (m ((c : Thread nD τ).loc main_arg2)) (i 0) (i 1) := by
  refine (dats m 0 c).arrAt_eq_of_covers 5 _ (by decide +kernel) fun t hf y => ?_
  blk_simp
  change S1536x2048.Idx at y
  obtain ⟨r, q, rfl⟩ : ∃ r q, y = ix2 r q := ⟨y 0, y 1, eq_ix2 y⟩
  rw [emb5]
  exact ha_after m c t r q

/-- What the one grid point leaves in window 6. -/
theorem h1_after (t : Fin cfg0.N) (r : Fin 1536) (q : Fin 2048) : (dats m 0 c).after 6 t (ix2 r q)
    = h1 (m (c.tc.loc main_arg0)) (m (c.tc.loc main_arg1)) (m (c.tc.loc main_arg2)) (m (c.tc.loc main_arg3))
      (m (c.tc.loc main_arg4)) r q := by
  rw [after0_6]
  generalize hG : h1 _ _ _ _ _ _ _ = G
  unfold outsAt0
  dsimp only
  frame_out
  simp only [read_unread_whole]
  rw [← hG]
  exact h1_of _ _ _ _ _ (w_blk m c t) (wsc_blk m c t _) (ow_blk m c t) (x_blk m c t) (nw_blk m c t) r q

/-- The reference's residual stream is the closed form's. -/
theorem h1_eq : (dats m 0 c).arrAt 6 cfg0.N = fun i => h1 (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) := by
  refine (dats m 0 c).arrAt_eq_of_covers 6 _ (by decide +kernel) fun t hf y => ?_
  blk_simp
  change S1536x2048.Idx at y
  obtain ⟨r, q, rfl⟩ : ∃ r q, y = ix2 r q := ⟨y 0, y 1, eq_ix2 y⟩
  rw [emb6]
  exact h1_after m c t r q

/-- What the one grid point leaves in window 7. -/
theorem codes_after (t : Fin cfg0.N) (r : Fin 1536) (q : Fin 2048) : (dats m 0 c).after 7 t (ix2 r q)
    = codes (m (c.tc.loc main_arg0)) (m (c.tc.loc main_arg1)) (m (c.tc.loc main_arg2)) (m (c.tc.loc main_arg3))
      (m (c.tc.loc main_arg4)) r q := by
  rw [after0_7]
  generalize hG : codes _ _ _ _ _ _ _ = G
  unfold outsAt0
  dsimp only
  frame_out
  simp only [read_unread_whole]
  rw [← hG]
  exact codes_of _ _ _ _ _ (w_blk m c t) (wsc_blk m c t _) (ow_blk m c t) (x_blk m c t) (nw_blk m c t) r q

/-- The reference's codes are the closed form's. -/
theorem codes_eq : (dats m 0 c).arrAt 7 cfg0.N = fun i => codes (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) := by
  refine (dats m 0 c).arrAt_eq_of_covers 7 _ (by decide +kernel) fun t hf y => ?_
  blk_simp
  change S1536x2048.Idx at y
  obtain ⟨r, q, rfl⟩ : ∃ r q, y = ix2 r q := ⟨y 0, y 1, eq_ix2 y⟩
  rw [emb7]
  exact codes_after m c t r q

/-- What the one grid point leaves in window 8. -/
theorem scales_after (t : Fin cfg0.N) (g : Fin 3) (b : Fin 64) (j : Fin 512) : (dats m 0 c).after 8 t (ix3 g b j)
    = slabs (m (c.tc.loc main_arg0)) (m (c.tc.loc main_arg1)) (m (c.tc.loc main_arg2)) (m (c.tc.loc main_arg3))
      (m (c.tc.loc main_arg4)) g b j := by
  rw [after0_8]
  generalize hG : slabs _ _ _ _ _ _ _ _ = G
  unfold outsAt0
  dsimp only
  frame_out
  simp only [read_unread_whole]
  rw [← hG]
  exact slabs_of _ _ _ _ _ (w_blk m c t) (wsc_blk m c t _) (ow_blk m c t) (x_blk m c t) (nw_blk m c t) g b j

/-- The reference's scales are the closed form's. -/
theorem scales_eq : (dats m 0 c).arrAt 8 cfg0.N = fun i => slabs (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) (i 2) := by
  refine (dats m 0 c).arrAt_eq_of_covers 8 _ (by decide +kernel) fun t hf y => ?_
  blk_simp
  change S3x64x512.Idx at y
  obtain ⟨g, b, j, rfl⟩ : ∃ g b j, y = ix3 g b j := ⟨y 0, y 1, y 2, eq_ix3 y⟩
  rw [emb8]
  exact scales_after m c t g b j

/-- What the one grid point leaves in window 9. -/
theorem wide_after (t : Fin cfg0.N) (r : Fin 1536) (q : Fin 2048) : (dats m 0 c).after 9 t (ix2 r q)
    = wide (m (c.tc.loc main_arg0)) (m (c.tc.loc main_arg1)) (m (c.tc.loc main_arg2)) (m (c.tc.loc main_arg3))
      (m (c.tc.loc main_arg4)) r q := by
  rw [after0_9]
  generalize hG : wide _ _ _ _ _ _ _ = G
  unfold outsAt0
  dsimp only
  frame_out
  simp only [read_unread_whole]
  rw [← hG]
  exact wide_of _ _ _ _ _ (w_blk m c t) (wsc_blk m c t _) (ow_blk m c t) (x_blk m c t) (nw_blk m c t) r q

/-- The reference's widened codes are the closed form's. -/
theorem wide_eq : (dats m 0 c).arrAt 9 cfg0.N = fun i => wide (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) := by
  refine (dats m 0 c).arrAt_eq_of_covers 9 _ (by decide +kernel) fun t hf y => ?_
  blk_simp
  change S1536x2048.Idx at y
  obtain ⟨r, q, rfl⟩ : ∃ r q, y = ix2 r q := ⟨y 0, y 1, eq_ix2 y⟩
  rw [emb9]
  exact wide_after m c t r q

end Cert.OpRefIdeal.RefValue

end
-- ==== Proof.lean ====
module

public import proofs.«01_k».proof.Defs
public import proofs.«01_k».proof.Proof.Gen.Ff
public import proofs.«01_k».proof.Proof.Gen.Ff.Skeleton
public import proofs.«01_k».proof.Proof.Gen.Ff.Launch
public import proofs.«01_k».proof.Proof.Gen.Ff.Points
public import proofs.«01_k».proof.Proof.Gen.Ff.Frame
public import proofs.«01_k».proof.Proof.Gen.FfIdeal
public import proofs.«01_k».proof.Proof.Gen.FfIdeal.Skeleton
public import proofs.«01_k».proof.Proof.Gen.FfIdeal.Launch
public import proofs.«01_k».proof.Proof.Gen.FfIdeal.Points
public import proofs.«01_k».proof.Proof.Gen.FfIdeal.Frame
public import proofs.«01_k».proof.Proof.Gen.FfRefIdeal
public import proofs.«01_k».proof.Proof.Gen.FfRefIdeal.Skeleton
public import proofs.«01_k».proof.Proof.Gen.FfRefIdeal.Launch
public import proofs.«01_k».proof.Proof.Gen.FfRefIdeal.Points
public import proofs.«01_k».proof.Proof.Gen.FfRefIdeal.Frame
public import proofs.«01_k».proof.Proof.Gen.FfIdeal.Value
public import proofs.«01_k».proof.Proof.Gen.FfRefIdeal.Value
public import proofs.«01_k».proof.Proof.Gen.Op
public import proofs.«01_k».proof.Proof.Gen.Op.Skeleton
public import proofs.«01_k».proof.Proof.Gen.Op.Launch
public import proofs.«01_k».proof.Proof.Gen.Op.Points
public import proofs.«01_k».proof.Proof.Gen.Op.Frame
public import proofs.«01_k».proof.Proof.Gen.OpIdeal
public import proofs.«01_k».proof.Proof.Gen.OpIdeal.Skeleton
public import proofs.«01_k».proof.Proof.Gen.OpIdeal.Launch
public import proofs.«01_k».proof.Proof.Gen.OpIdeal.Points
public import proofs.«01_k».proof.Proof.Gen.OpIdeal.Frame
public import proofs.«01_k».proof.Proof.Gen.OpRefIdeal
public import proofs.«01_k».proof.Proof.Gen.OpRefIdeal.Skeleton
public import proofs.«01_k».proof.Proof.Gen.OpRefIdeal.Launch
public import proofs.«01_k».proof.Proof.Gen.OpRefIdeal.Points
public import proofs.«01_k».proof.Proof.Gen.OpRefIdeal.Frame
public import proofs.«01_k».proof.Proof.Gen.OpIdeal.Value
public import proofs.«01_k».proof.Proof.Gen.OpRefIdeal.Value
public import proofs.«01_k».proof.Proof.FfBlocks
public import proofs.«01_k».proof.Proof.FfRefValue
public import proofs.«01_k».proof.Proof.FfHbm
public import proofs.«01_k».proof.Proof.OpBlocks
public import proofs.«01_k».proof.Proof.OpRefValue
public import Idealize.ShloMosaic.Adequacy
public import Idealize.ShloMosaic.Init

@[expose] public section

noncomputable section

namespace Cert.Proof

open Idealize.ShloMosaic Idealize.SL.Sem Cert.Ff

/-- Over the extended reals the kernel's four results are the reference's. -/
theorem ff_algebraic : algebraic_FfIdeal_FfRefIdeal (hFfIdeal := Cert.FfIdeal.Gen.facts) (hFfRefIdeal := Cert.FfRefIdeal.Gen.facts) := by
  intro m g m' g' _ hagree
  refine ⟨fun c => Cert.FfIdeal.Hbm.fin0 m c, fun c => Cert.FfIdeal.Hbm.fin1 m c,
    fun c => (Cert.FfIdeal.Gen.dats m 0 c).arrAt 5 Cert.FfIdeal.cfg0.N,
    fun c => (Cert.FfIdeal.Gen.dats m 0 c).arrAt 6 Cert.FfIdeal.cfg0.N, Cert.FfIdeal.Hbm.run_all m g, ?_⟩
  refine (θ_run Cert.FfRefIdeal.defs _ _).mono (fun r h c => ?_) (Cert.FfRefIdeal.Value.run_blocks m' g')
  obtain ⟨h6, h7, h8, h9, hargs⟩ := h c
  obtain ⟨a0, a1, a2, a3, a4, a5⟩ := hagree c
  refine ⟨h6.trans ?_, h7.trans ?_, h8.trans ?_, h9.trans ?_, hargs⟩
  · rw [Cert.FfRefIdeal.RefValue.out_eq, a0, a1, a2, a3, a4, a5]
    rfl
  · rw [Cert.FfRefIdeal.RefValue.down_eq, a0, a1, a2, a3]
    rfl
  · rw [Cert.FfRefIdeal.RefValue.codes_eq, a0, a1, a3]
    exact (Cert.FfIdeal.Blocks.codes_eq m c).symm
  · rw [Cert.FfRefIdeal.RefValue.scales_eq, a0, a1, a3]
    exact (Cert.FfIdeal.Blocks.scales_eq m c).symm

theorem op_algebraic : algebraic_OpIdeal_OpRefIdeal (hOpIdeal := Cert.OpIdeal.Gen.facts) (hOpRefIdeal := Cert.OpRefIdeal.Gen.facts) := by
  intro m g m' g' _ hagree
  refine ⟨fun c => (Cert.OpIdeal.Gen.dats m 0 c).arrAt 5 Cert.OpIdeal.cfg0.N,
    fun c => (Cert.OpIdeal.Gen.dats m 0 c).arrAt 6 Cert.OpIdeal.cfg0.N,
    fun c => (Cert.OpIdeal.Gen.dats m 0 c).arrAt 7 Cert.OpIdeal.cfg0.N,
    fun c => (Cert.OpIdeal.Gen.dats m 0 c).arrAt 8 Cert.OpIdeal.cfg0.N,
    fun c => (Cert.OpIdeal.Gen.dats m 0 c).arrAt 9 Cert.OpIdeal.cfg0.N, Cert.OpIdeal.Value.run_blocks m g, ?_⟩
  refine (θ_run Cert.OpRefIdeal.defs _ _).mono (fun r h c => ?_) (Cert.OpRefIdeal.Value.run_blocks m' g')
  obtain ⟨h5, h6, h7, h8, h9, hargs⟩ := h c
  obtain ⟨a0, a1, a2, a3, a4⟩ := hagree c
  refine ⟨h5.trans ?_, h6.trans ?_, h7.trans ?_, h8.trans ?_, h9.trans ?_, hargs⟩
  · rw [Cert.OpRefIdeal.RefValue.ha_eq, a0, a1, a2]
    exact (Cert.OpIdeal.Blocks.ha_eq m c).symm
  · rw [Cert.OpRefIdeal.RefValue.h1_eq, a0, a1, a2, a3, a4]
    exact (Cert.OpIdeal.Blocks.h1_eq m c).symm
  · rw [Cert.OpRefIdeal.RefValue.codes_eq, a0, a1, a2, a3, a4]
    exact (Cert.OpIdeal.Blocks.codes_eq m c).symm
  · rw [Cert.OpRefIdeal.RefValue.scales_eq, a0, a1, a2, a3, a4]
    exact (Cert.OpIdeal.Blocks.scales_eq m c).symm
  · rw [Cert.OpRefIdeal.RefValue.wide_eq, a0, a1, a2, a3, a4]
    exact (Cert.OpIdeal.Blocks.wide_eq m c).symm

theorem claim : Cert.Claim := ⟨Cert.Ff.Gen.facts, Cert.FfIdeal.Gen.facts, Cert.FfRefIdeal.Gen.facts,
  Cert.Op.Gen.facts, Cert.OpIdeal.Gen.facts, Cert.OpRefIdeal.Gen.facts,
  fun m ρ _ => Cert.Ff.Gen.frame m ρ, fun m ρ _ => Cert.FfIdeal.Gen.frame m ρ, fun m ρ _ => Cert.FfRefIdeal.Gen.frame m ρ,
  fun m ρ _ => Cert.Op.Gen.frame m ρ, fun m ρ _ => Cert.OpIdeal.Gen.frame m ρ, fun m ρ _ => Cert.OpRefIdeal.Gen.frame m ρ,
  IdealRules.named_const.statement _ _ _ _ _ rfl, ff_algebraic, IdealRules.named_const.statement _ _ _ _ _ rfl, op_algebraic⟩

end Cert.Proof

end
